-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![768, 512]⟩ ⟨2, ![1536, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2] ![[1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![768, 512]⟩ ⟨2, ![1536, 1024]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x512 : Shape := ⟨2, ![768, 512]⟩
abbrev S512 : Shape := ⟨1, ![512]⟩
abbrev S1x512 : Shape := ⟨2, ![1, 512]⟩
abbrev S6x128 : Shape := ⟨2, ![6, 128]⟩
abbrev S8x128 : Shape := ⟨2, ![8, 128]⟩
abbrev S2 : Shape := ⟨1, ![2]⟩
abbrev S_ : Shape := ⟨0, ![]⟩
abbrev S384x512 : Shape := ⟨2, ![384, 512]⟩
abbrev S384 : Shape := ⟨1, ![384]⟩
abbrev S3x128 : Shape := ⟨2, ![3, 128]⟩
abbrev S1 : Shape := ⟨1, ![1]⟩
abbrev S384x1 : Shape := ⟨2, ![384, 1]⟩

abbrev nBuf : Space → Nat
  | .hbm => 4
  | .vmem => 5
  | .smem => 0
  | _ => 0

abbrev bufTy : (tb : Table) → Fin (tcTables nBuf tb) → BufTy
  | .hbm, ⟨0, _⟩ => ⟨S768x512, .f32⟩
  | .hbm, ⟨1, _⟩ => ⟨S512, .f32⟩
  | .hbm, ⟨2, _⟩ => ⟨S1x512, .f32⟩
  | .hbm, ⟨3, _⟩ => ⟨S768x512, .f32⟩
  | .local _ .vmem, ⟨0, _⟩ => ⟨S768x512, .f32⟩
  | .local _ .vmem, ⟨1, _⟩ => ⟨S1x512, .f32⟩
  | .local _ .vmem, ⟨2, _⟩ => ⟨S768x512, .f32⟩
  | .local _ .vmem, ⟨3, _⟩ => ⟨S6x128, .f32⟩
  | .local _ .vmem, ⟨4, _⟩ => ⟨S8x128, .f32⟩
  | _, _ => ⟨S768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v20 : BitVec 32 := Scalar.muli v2 c2_i32_12
  let v21 : BitVec 32 := Scalar.addi c0_i32_13 v20
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_14 : BitVec 32 := 1#32
  let v22 : BitVec 32 := Scalar.muli v6 c1_i32_14
  let v23 : BitVec 32 := Scalar.addi v21 v22
  v23.toNat
def k0_dev3 (d0 : Dev nD) : Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v38 : BitVec 32 := Scalar.muli v2 c2_i32_24
  let v39 : BitVec 32 := Scalar.addi c0_i32_25 v38
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_26 : BitVec 32 := 1#32
  let v40 : BitVec 32 := Scalar.muli v6 c1_i32_26
  let v41 : BitVec 32 := Scalar.addi v39 v40
  v41.toNat
abbrev stage0_0 : Fin 1 → Memref sig .tc .vmem S768x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x1024 : Shape := ⟨2, ![1536, 1024]⟩
abbrev S1024 : Shape := ⟨1, ![1024]⟩
abbrev S_ : Shape := ⟨0, ![]⟩
abbrev S1536 : Shape := ⟨1, ![1536]⟩
abbrev S1536x1 : Shape := ⟨2, ![1536, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S1536x1024, .f32⟩
  | .hbm, ⟨1, _⟩ => ⟨S1024, .f32⟩
  | .hbm, ⟨2, _⟩ => ⟨S1536x1024, .f32⟩
  | .hbm, ⟨3, _⟩ => ⟨S_, .f32⟩
  | .hbm, ⟨4, _⟩ => ⟨S1536, .f32⟩
  | .hbm, ⟨5, _⟩ => ⟨S1536x1, .f32⟩
  | .hbm, ⟨6, _⟩ => ⟨S_, .f32⟩
  | .hbm, ⟨7, _⟩ => ⟨S1536x1, .f32⟩
  | .hbm, ⟨8, _⟩ => ⟨S1536x1, .f32⟩
  | .hbm, ⟨9, _⟩ => ⟨S_, .f32⟩
  | .hbm, ⟨10, _⟩ => ⟨S1536x1, .f32⟩
  | .hbm, ⟨11, _⟩ => ⟨S1536x1, .f32⟩
  | .hbm, ⟨12, _⟩ => ⟨S1536x1, .f32⟩
  | .hbm, ⟨13, _⟩ => ⟨S1x1024, .f32⟩
  | .hbm, ⟨14, _⟩ => ⟨S1536x1024, .f32⟩
  | .hbm, ⟨15, _⟩ => ⟨S1536x1024, .f32⟩
  | .hbm, ⟨16, _⟩ => ⟨S1536x1024, .f32⟩
  | .hbm, ⟨17, _⟩ => ⟨S1536x1024, .f32⟩
  | _, _ => ⟨S1536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Protocol.lean ====
/-
The exchange protocol of the distributed RMS norm: the two devices of a mesh row trade their partial sums of
squares in two chunks. Cells, contents, the one-round schedule, what each device owes at launch and the levels.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Memref
public import Idealize.ShloMosaic.Lib.Tactic

@[expose] public section

noncomputable section

namespace Cert.RmsNorm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg cellOf)

variable {F : FTy → Type} [FloatOps F]

/-- Two copies of the rounds algebra: the pipeline's and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR
abbrev 𝒱₀ : Variants := Variants.none

variable (m : (ℓ : Loc nD τ sig) → Buf (Elt F) ℓ)

/-! ## The partner -/

set_option backward.proofsInPublic true in
/-- The device of the same mesh row in the other column: `2x + y` to `2x + (1 - y)`. -/
def peer (c : Dev nD) : Dev nD :=
  ⟨2 * (c.val / 2) + 1 - c.val % 2, by have := c.isLt; revert this; generalize c.val = v; decide +revert⟩

/-- The partner's partner is the device itself. -/
theorem peer_peer (c : Dev nD) : peer (peer c) = c := by revert c; decide

/-- The bijection of devices that swaps partners. -/
def swap : Dev nD ≃ Dev nD := ⟨peer, peer, peer_peer, peer_peer⟩

/-- The three device ids the body computes all name the partner: the signal's and the two copies'. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

/-! ## Buffers, chunks, semaphores, cells -/

abbrev xM : Memref sig .tc .vmem S768x512 .f32 := Memref.whole cc0_stg0_0
abbrev gM : Memref sig .tc .vmem S1x512 .f32 := Memref.whole cc0_stg1_0
abbrev oM : Memref sig .tc .vmem S768x512 .f32 := Memref.whole cc0_stg2_0
abbrev sM : Memref sig .tc .vmem S6x128 .f32 := Memref.whole cc0_scratch0
abbrev rM : Memref sig .tc .vmem S8x128 .f32 := Memref.whole cc0_scratch1

theorem inbX (k : Fin 2) : ∀ a, (![384 * k.val, 0] : Fin 2 → Nat) a + S384x512.size a ≤ S768x512.size a := by
  revert k; decide
theorem inbS (k : Fin 2) : ∀ a, (![3 * k.val, 0] : Fin 2 → Nat) a + S3x128.size a ≤ S6x128.size a := by
  revert k; decide
theorem inbR (k : Fin 2) : ∀ a, (![3 * k.val, 0] : Fin 2 → Nat) a + S3x128.size a ≤ S8x128.size a := by
  revert k; decide

/-- Chunk `k` of the block's rows, of the send buffer's and of the receive buffer's. -/
abbrev rectX (k : Fin 2) : Rect S768x512 := Rect.unit (s := S768x512) ![384 * k.val, 0] S384x512.size (inbX k)
abbrev rectS (k : Fin 2) : Rect S6x128 := Rect.unit (s := S6x128) ![3 * k.val, 0] S3x128.size (inbS k)
abbrev rectR (k : Fin 2) : Rect S8x128 := Rect.unit (s := S8x128) ![3 * k.val, 0] S3x128.size (inbR k)

abbrev sendM (k : Fin 2) : Memref sig .tc .vmem S3x128 .f32 := sM.slice (rectS k) (fun _ => rfl)
abbrev recvM (k : Fin 2) : Memref sig .tc .vmem S3x128 .f32 := rM.slice (rectR k) (fun _ => rfl)

abbrev barS : Sem sig := (SemArray.scalar (sig.barrier 0 rfl) : Sems sig S_).sem
/-- Chunk `k`'s send and receive semaphores. -/
abbrev sSem (k : Fin 2) : DmaSem sig := ⟨3 + k.val, by have := k.isLt; show 3 + k.val < 7; omega⟩
abbrev rSem (k : Fin 2) : DmaSem sig := ⟨5 + k.val, by have := k.isLt; show 5 + k.val < 7; omega⟩

/-- The body reaches the four DMA semaphores by slicing its two arrays. -/
theorem send_slice0 : ((cc0_scratch2.slice (Rect.unit (s := S2) ![0] S1.size inb_S2_S1_0)).squeeze S_ squeezes_S1_S_).sem = sSem 0 := rfl
theorem send_slice1 : ((cc0_scratch2.slice (Rect.unit (s := S2) ![1] S1.size inb_S2_S1_1)).squeeze S_ squeezes_S1_S_).sem = sSem 1 := rfl
theorem recv_slice0 : ((cc0_scratch3.slice (Rect.unit (s := S2) ![0] S1.size inb_S2_S1_0)).squeeze S_ squeezes_S1_S_).sem = rSem 0 := rfl
theorem recv_slice1 : ((cc0_scratch3.slice (Rect.unit (s := S2) ![1] S1.size inb_S2_S1_1)).squeeze S_ squeezes_S1_S_).sem = rSem 1 := rfl

abbrev barCell (c : Dev nD) : GSem nD τ sig := ((c : Thread nD τ), .reg barS)
abbrev sendCell (k : Fin 2) (c : Dev nD) : GSem nD τ sig := ((c : Thread nD τ), .dma (sSem k))
abbrev recvCell (k : Fin 2) (c : Dev nD) : GSem nD τ sig := ((c : Thread nD τ), .dma (rSem k))

/-- The four scoped semaphores of the kernel: the two sends', then the two receives'. -/
abbrev osem : Fin 4 → SemLoc sig := fun | 0 => .dma (sSem 0) | 1 => .dma (sSem 1) | 2 => .dma (rSem 0) | 3 => .dma (rSem 1)

/-- A chunk's credit. -/
abbrev N : ℕ := (recvM 0).view.dmaCredit
theorem N_pos : 0 < N := View.dmaCredit_pos _ (by decide)

/-! ## Contents -/

/-- The block of `x` and the row of `gamma` that device `c`'s kernel reads. -/
abbrev xin (c : Dev nD) : Vec F S768x512 .f32 := iblk m c 0 t0_0
abbrev gin (c : Dev nD) : Vec F S1x512 .f32 := iblk m c 1 t0_0

/-- Chunk `k` of `x`, the partial sums of squares of its rows, and the rows of the result it gives. -/
def xChunk (k : Fin 2) (c : Dev nD) : Vec F S384x512 .f32 := (xM.access (rectX k)).read (Elt F) (xin m c)
def sums (k : Fin 2) (c : Dev nD) : Vec F S3x128 .f32 := k0_pay2 (xChunk m k c)
def outChunk (k : Fin 2) (c : Dev nD) : Vec F S384x512 .f32 :=
  k0_pay1 (sums m k c) (sums m k (peer c)) (xChunk m k c) (gin m c)

/-- The two chunks' payloads are the same functions. -/
theorem pay3_eq : k0_pay3 (F := F) = k0_pay2 := rfl
theorem pay4_eq : k0_pay4 (F := F) = k0_pay1 := rfl

/-- What the result's staging buffer ends holding, whatever it held: both chunks stored. -/
def outAt (c : Dev nD) : Vec F S768x512 .f32 := fun i =>
  (oM.access (rectX 1)).write (Elt F)
    ((oM.access (rectX 0)).write (Elt F) (fun _ => FloatOps.ofBits .f32 0#32) (outChunk m 0 c) Finset.univ) (outChunk m 1 c) Finset.univ i

/-! ## The schedule -/

/-- Device `c`'s chunk of the send buffer at its sums; its chunk of the receive buffer at its partner's. -/
def sendPay (k : Fin 2) (c : Dev nD) : sProp 𝕄 := owns (c : Thread nD τ) (sendM k) fullShare (sums m k c)
def recvPay (k : Fin 2) (c : Dev nD) : sProp 𝕄 := owns (c : Thread nD τ) (recvM k) fullShare (sums m k (peer c))
/-- A chunk of the receive buffer at contents not chosen, and that its receive cell is in round 0. -/
def landing (k : Fin 2) (c : Dev nD) : sProp 𝕄 :=
  iprop((∃ X, owns (c : Thread nD τ) (recvM k) fullShare X) ∗ reached ER (recvCell k c) 0)
/-- What the partner's signal brings: both its landing chunks. -/
def barPay (c : Dev nD) : sProp 𝕄 := iprop(landing (F := F) 0 (peer c) ∗ landing (F := F) 1 (peer c))

/-- What duty of a cell named by semaphore `s` of device `c` pays. -/
def pay (s : SemLoc sig) (c : Dev nD) : sProp 𝕄 :=
  if s = .reg barS then barPay c
  else if s = .dma (sSem 0) then sendPay m 0 c else if s = .dma (sSem 1) then sendPay m 1 c
  else if s = .dma (rSem 0) then recvPay m 0 c else if s = .dma (rSem 1) then recvPay m 1 c
  else iprop(emp)

abbrev IsTalk (g : GSem nD τ sig) : Prop :=
  g.1.2 = .tc ∧ (g.2 = .reg barS ∨ ∃ k, g.2 = .dma (sSem k) ∨ g.2 = .dma (rSem k))

/-- One round, one duty on each of a device's five cells. -/
def rd : Rounds.Schedule (GSem nD τ sig) Unit 𝕄 where
  duties g r := if r = 0 ∧ IsTalk g then {()} else ∅
  unitless _ := False
  amount g _ _ := if g.2 = .reg barS then 1 else N
  payload g _ _ := pay m g.2 g.1.1
  amount_pos g _ _ _ := by
    by_cases h : g.2 = .reg barS
    · rw [if_pos h]; exact Nat.one_pos
    · rw [if_neg h]; exact N_pos

instance rd_payload_storable (g : GSem nD τ sig) (r : ℕ) (d : Unit) :
    BI.Storable (upEmb : UEmb _ 𝕄) ((rd (F := F) m).payload g r d) := by
  show BI.Storable upEmb (pay m g.2 g.1.1)
  unfold pay barPay landing sendPay recvPay
  (repeat' split) <;> infer_instance

section Sched

variable (c : Dev nD) (k : Fin 2)

theorem duties_bar : (rd (F := F) m).duties (barCell c) 0 = {()} := by dsimp only [rd]; exact if_pos ⟨rfl, rfl, .inl rfl⟩
theorem duties_send : (rd (F := F) m).duties (sendCell k c) 0 = {()} := by
  dsimp only [rd]; exact if_pos ⟨rfl, rfl, .inr ⟨k, .inl rfl⟩⟩
theorem duties_recv : (rd (F := F) m).duties (recvCell k c) 0 = {()} := by
  dsimp only [rd]; exact if_pos ⟨rfl, rfl, .inr ⟨k, .inr rfl⟩⟩
/-- No cell has a second round. -/
theorem duties_later (g : GSem nD τ sig) : ∀ r, 1 ≤ r → (rd (F := F) m).duties g r = ∅ :=
  fun r hr => by dsimp only [rd]; exact if_neg fun h => by omega

theorem amount_bar : (rd (F := F) m).amount (barCell c) 0 () = 1 := by dsimp only [rd]; exact if_pos rfl
theorem amount_dma (q : DmaSem sig) : (rd (F := F) m).amount ((c : Thread nD τ), .dma q) 0 () = N := by
  dsimp only [rd]; exact if_neg fun h => by cases h

theorem payload_bar : (rd (F := F) m).payload (barCell c) 0 () = barPay c := by
  show pay m (.reg barS) c = _
  unfold pay; exact if_pos rfl
theorem payload_send : (rd (F := F) m).payload (sendCell k c) 0 () = sendPay m k c := by
  show pay m (.dma (sSem k)) c = _
  unfold pay; rw [if_neg (fun h => by cases h)]
  fin_cases k
  · exact if_pos rfl
  · rw [if_neg (by decide)]; exact if_pos rfl
theorem payload_recv : (rd (F := F) m).payload (recvCell k c) 0 () = recvPay m k c := by
  show pay m (.dma (rSem k)) c = _
  unfold pay; rw [if_neg (fun h => by cases h)]
  fin_cases k <;> rw [if_neg (by decide), if_neg (by decide)]
  · exact if_pos rfl
  · rw [if_neg (by decide)]; exact if_pos rfl

theorem expect_bar : (rd (F := F) m).expect (barCell c) 0 = 1 := by
  unfold Schedule.expect Schedule.amountOf; rw [duties_bar, Finset.sum_singleton, amount_bar]
/-- A DMA cell with its one duty expects a chunk's credit, and its payload is all it pays. -/
theorem expect_dma (q : DmaSem sig) (hq : (rd (F := F) m).duties ((c : Thread nD τ), .dma q) 0 = {()}) :
    (rd (F := F) m).expect ((c : Thread nD τ), .dma q) 0 = N := by
  unfold Schedule.expect Schedule.amountOf; rw [hq, Finset.sum_singleton, amount_dma]
theorem rest_of (g : GSem nD τ sig) (hg : (rd (F := F) m).duties g 0 = {()}) :
    bigSep ((rd (F := F) m).duties g 0 \ ∅) (fun u => (rd (F := F) m).payload g 0 u) = (rd (F := F) m).payload g 0 () := by
  rw [Finset.sdiff_empty, hg, bigSep_singleton]

end Sched

/-! ## What each device owes at launch; the levels -/

/-- The two receive credits of the partner (the copies pay them). -/
def O₂ (c : Dev nD) : CellTallies nD τ sig Unit := tallyAt (recvCell 1 (peer c)) () N + tallyAt (recvCell 0 (peer c)) () N
/-- With the partner's barrier unit (the signal pays it). -/
def O₀ (c : Dev nD) : CellTallies nD τ sig Unit := O₂ c + tallyAt (barCell (peer c)) () 1

def L (g : GSem nD τ sig) : Finset Unit := if g.1.2 = .tc then {()} else ∅
/-- Barrier cells at 1, receive cells at 2, the rest at 0. -/
def lv (g : GSem nD τ sig) (_ : Unit) : ℕ := if g.2 = .reg barS then 1 else if ∃ k, g.2 = .dma (rSem k) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; exact if_pos rfl
theorem lv_recv (k : Fin 2) (c : Dev nD) (u : Unit) : lv (recvCell k c) u = 2 := by
  dsimp only [lv]; rw [if_neg (fun h => by cases h)]; exact if_pos ⟨k, rfl⟩

theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h
theorem O₂_pos {c : Dev nD} {g : GSem nD τ sig} {u : Unit} (h : 0 < O₂ c g u) : ∃ k, g = recvCell k (peer c) := by
  unfold O₂ at h
  rw [Pi.add_apply, Finsupp.add_apply] at h
  rcases Nat.add_pos_iff_pos_or_pos.mp h with h | h
  · exact ⟨1, tally_pos h⟩
  · exact ⟨0, tally_pos h⟩
theorem O₀_pos {c : Dev nD} {g : GSem nD τ sig} {u : Unit} (h : 0 < O₀ c g u) :
    (∃ k, g = recvCell k (peer c)) ∨ g = barCell (peer c) := by
  unfold O₀ at h
  rw [Pi.add_apply, Finsupp.add_apply] at h
  rcases Nat.add_pos_iff_pos_or_pos.mp h with h | h
  · exact .inl (O₂_pos h)
  · exact .inr (tally_pos h)

/-- At its barrier wait a device owes only receive credits, which lie above. -/
theorem mayWait_bar (c : Dev nD) : (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by obtain ⟨k, rfl⟩ := O₂_pos hg; exact Finset.mem_singleton_self _)
    (fun p hp => by rw [Finset.mem_singleton.mp hp]; exact le_of_eq (lv_bar c ()))
    (fun g u hg => by obtain ⟨k, rfl⟩ := O₂_pos hg; rw [lv_recv]; decide)

/-! ## The ghost state -/

/-- The invariants a device opens: its own five cells', and its partner's barrier and receive cells'. -/
def invs (K : GSem nD τ sig → ℕ) (c : Dev nD) : sProp 𝕄 :=
  iprop(cellInv ER (rd m) (K (barCell c)) (barCell c)
    ∗ cellInv ER (rd m) (K (sendCell 0 c)) (sendCell 0 c) ∗ cellInv ER (rd m) (K (sendCell 1 c)) (sendCell 1 c)
    ∗ cellInv ER (rd m) (K (recvCell 0 c)) (recvCell 0 c) ∗ cellInv ER (rd m) (K (recvCell 1 c)) (recvCell 1 c)
    ∗ cellInv ER (rd m) (K (barCell (peer c))) (barCell (peer c))
    ∗ cellInv ER (rd m) (K (recvCell 0 (peer c))) (recvCell 0 (peer c))
    ∗ cellInv ER (rd m) (K (recvCell 1 (peer c))) (recvCell 1 (peer c)))

instance invs_persistent (K : GSem nD τ sig → ℕ) (c : Dev nD) : BI.Persistent (invs m K c) := by unfold invs; infer_instance

/-- The five duties a device pays: its partner's barrier unit and receive credits, its own send credits. -/
def payToks (c : Dev nD) : sProp 𝕄 :=
  iprop(dutyTok ER (barCell (peer c)) 0 () ∗ dutyTok ER (recvCell 0 (peer c)) 0 () ∗ dutyTok ER (recvCell 1 (peer c)) 0 ()
    ∗ dutyTok ER (sendCell 0 c) 0 () ∗ dutyTok ER (sendCell 1 c) 0 ())

/-- What a device carries from launch to the kernel: the scoped cells are still to be opened. -/
def ghost (K : GSem nD τ sig → ℕ) (c : Dev nD) : sProp 𝕄 :=
  iprop(invs m K c ∗ atPos ER (barCell c) 0 ∅ 0
    ∗ openTok ER (sendCell 0 c) ∗ openTok ER (sendCell 1 c) ∗ openTok ER (recvCell 0 c) ∗ openTok ER (recvCell 1 c)
    ∗ reached ER (barCell (peer c)) 0 ∗ payToks c)

/-- The three credit tokens it waits with. -/
def creds (c : Dev nD) : sProp 𝕄 :=
  iprop(cred (tallyAt (barCell c) () 1) ∗ cred (tallyAt (recvCell 0 c) () N) ∗ cred (tallyAt (recvCell 1 c) () N))

def start (c : Dev nD) : sProp 𝕄 := iprop((∃ K, ghost m K c) ∗ creds c ∗ ∃ r, prngReg c r)

/-- The ghost state once the four scoped cells are open. -/
def opened (K : GSem nD τ sig → ℕ) (c : Dev nD) : sProp 𝕄 :=
  iprop(invs m K c ∗ atPos ER (barCell c) 0 ∅ 0
    ∗ (atPos ER (sendCell 0 c) 0 ∅ 0 ∗ reached ER (sendCell 0 c) 0) ∗ (atPos ER (sendCell 1 c) 0 ∅ 0 ∗ reached ER (sendCell 1 c) 0)
    ∗ (atPos ER (recvCell 0 c) 0 ∅ 0 ∗ reached ER (recvCell 0 c) 0) ∗ (atPos ER (recvCell 1 c) 0 ∅ 0 ∗ reached ER (recvCell 1 c) 0)
    ∗ reached ER (barCell (peer c)) 0 ∗ payToks c)

/-- A cell whose one round is over closes, its counter at zero. -/
theorem close (κ : ℕ) (g : GSem nD τ sig) :
    iprop(cellInv ER (rd m) κ g ∗ atPos ER g (0 + 1) ∅ 0) ⊢ (|={Set.univ}=> semVal g 0 : sProp 𝕄) :=
  Rounds.cell_close ER (rd m) (Set.mem_univ κ) id (duties_later m g)

end Cert.RmsNorm

end
-- ==== Proof.Pieces.lean ====
/-
Loads and stores of a part of a buffer that a device owns alone.
-/
module

public import Idealize.ShloMosaic.Lib.ViewIndex
public import proofs.«01_k».proof.Proof.Protocol

@[expose] public section

noncomputable section

namespace Cert.RmsNorm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## Loads and stores of an owned piece of a buffer -/

section Pieces

variable (c : Dev nD) {sh : Shape} {e : EltTy} (M : Memref sig .tc .vmem sh e) (r : Rect sh) (hr : ∀ a, r.stride a = 1)
  {α : Type}

/-- A load of an owned piece continues at what is owned of it. -/
theorem wp_load_piece {Q : α → sProp 𝕄} {hl : M.view.LoadsAt r.toLoadRect} {k : (r.shape.Idx → Elt F e) → Prog (TpuEff nD τ sig (Elt F) Λ₀ .tc) α}
    (X : r.shape.Idx → Elt F e) :
    owns (c : Thread nD τ) (M.slice r hr) fullShare X
      ⊢ iprop((owns (c : Thread nD τ) (M.slice r hr) fullShare X
            -∗ wp frame (wpE (defs₀ (F := F)) 𝒱₀ (c : Thread nD τ) none) Set.univ (k X) Q)
          -∗ wp frame (wpE (defs₀ (F := F)) 𝒱₀ (c : Thread nD τ) none) Set.univ (.op (.load M r.toLoadRect hl) k) Q) := by
  unfold owns
  iintro ⟨%f, %hf, H⟩ Hk
  iapply (wp_load_rect 𝒱₀ (c : Thread nD τ) none Set.univ (m := M) (r := r) (hl := hl) (k := k) (Finset.Subset.refl _)) $$ H
  iintro H
  rw [show (M.access r).read (Elt F) f = X from hf]
  iapply Hk
  iexists f
  isplitr; · ipureintro; exact hf
  iexact H

/-- A store over a whole owned piece leaves it owned at what was stored. -/
theorem wp_store_piece {Q : α → sProp 𝕄} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} (X : r.shape.Idx → Elt F e) :
    owns (c : Thread nD τ) (M.slice r hr) fullShare X
      ⊢ iprop((owns (c : Thread nD τ) (M.slice r hr) fullShare w
            -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold owns
  iintro ⟨%f, %hf, H⟩ Hk
  iapply (wp_store 𝒱₀ (c : Thread nD τ) none Set.univ (m := M) (r := r) (w := w) (Mk := Finset.univ) (hx := hx) (hm := hm) (k := k)
    (S := (M.access r).set) (by rw [View.setOn_univ])) $$ H
  iintro H
  iapply Hk
  iexists (M.access r).write (Elt F) f w Finset.univ
  isplitr; · ipureintro; exact View.read_write_univ _ _
  iexact H

/-- A buffer held whole: two pieces of it that do not meet, and the rest, each at contents not named. -/
theorem split_two (r₀ r₁ : Rect sh) (h₀ : ∀ a, r₀.stride a = 1) (h₁ : ∀ a, r₁.stride a = 1) (hd : Disjoint r₀.set r₁.set) :
    iprop(∃ f, M.view.loc (c : Thread nD τ) ↦[M.view.set]{fullShare} f)
      ⊢ (iprop((∃ X, owns (c : Thread nD τ) (M.slice r₀ h₀) fullShare X) ∗ (∃ X, owns (c : Thread nD τ) (M.slice r₁ h₁) fullShare X)
          ∗ ∃ f, M.view.loc (c : Thread nD τ) ↦[(M.view.set \ (M.view.slice r₀).set) \ (M.view.slice r₁).set]{fullShare} f) : sProp 𝕄) := by
  have hs : Disjoint (M.view.slice r₀).set (M.view.slice r₁).set := View.disjoint_slice hd
  have hsub : (M.view.slice r₁).set ⊆ M.view.set \ (M.view.slice r₀).set := Finset.subset_sdiff.mpr ⟨M.view.set_slice_subset r₁, hs.symm⟩
  iintro ⟨%f, H⟩
  ihave H' := (pointsTo_split_subset (M.view.set_slice_subset r₀)).1 $$ H
  icases H' with ⟨H0, H⟩
  ihave H' := (pointsTo_split_subset hsub).1 $$ H
  icases H' with ⟨H1, H⟩
  isplitl [H0]; · iexists _; iapply (owns_intro (c : Thread nD τ) (M.slice r₀ h₀) fullShare f); iexact H0
  isplitl [H1]; · iexists _; iapply (owns_intro (c : Thread nD τ) (M.slice r₁ h₁) fullShare f); iexact H1
  iexists f; iexact H

/-- The two pieces and the rest are the buffer held whole again. -/
theorem join_two (r₀ r₁ : Rect sh) (h₀ : ∀ a, r₀.stride a = 1) (h₁ : ∀ a, r₁.stride a = 1) (hd : Disjoint r₀.set r₁.set) :
    (iprop((∃ X, owns (c : Thread nD τ) (M.slice r₀ h₀) fullShare X) ∗ (∃ X, owns (c : Thread nD τ) (M.slice r₁ h₁) fullShare X)
        ∗ ∃ f, M.view.loc (c : Thread nD τ) ↦[(M.view.set \ (M.view.slice r₀).set) \ (M.view.slice r₁).set]{fullShare} f) : sProp 𝕄)
      ⊢ iprop(∃ f, M.view.loc (c : Thread nD τ) ↦[M.view.set]{fullShare} f) := by
  have hs : Disjoint (M.view.slice r₀).set (M.view.slice r₁).set := View.disjoint_slice hd
  have hsub : (M.view.slice r₁).set ⊆ M.view.set \ (M.view.slice r₀).set := Finset.subset_sdiff.mpr ⟨M.view.set_slice_subset r₁, hs.symm⟩
  unfold owns
  iintro ⟨⟨%X, %f₀, -, H0⟩, ⟨%Y, %f₁, -, H1⟩, ⟨%f, H⟩⟩
  ihave H := (pointsTo_join_subset (ℓ := M.view.loc (c : Thread nD τ)) hsub) $$ [H1 H]
  · isplitl [H1]; · iexact H1
    iexact H
  ihave H := (pointsTo_join_subset (ℓ := M.view.loc (c : Thread nD τ)) (M.view.set_slice_subset r₀)) $$ [H0 H]
  · isplitl [H0]; · iexact H0
    iexact H
  iexists _; iexact H

end Pieces

end Cert.RmsNorm

end
-- ==== Proof.Phases.lean ====
/-
The phases of the kernel's body, each stated once for either chunk: the partial sums, the copy to the partner, a wait,
the chunk of the result.
-/
module

public import proofs.«01_k».proof.Proof.Pieces

@[expose] public section

noncomputable section

namespace Cert.RmsNorm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The phases, for either chunk -/

section Phases

variable (c : Dev nD) (k : Fin 2) {α : Type}

/-- A device's staging buffer of `x`, of `gamma`, of the result. -/
abbrev xPts : sProp 𝕄 := ((c : Thread nD τ).loc cc0_stg0_0) ↦{fullShare} xin m c
abbrev gPts : sProp 𝕄 := ((c : Thread nD τ).loc cc0_stg1_0) ↦{fullShare} gin m c
abbrev oPts (f : Vec F S768x512 .f32) : sProp 𝕄 := ((c : Thread nD τ).loc cc0_stg2_0) ↦{fullShare} f

/-- The partial sums of chunk `k`: its rows of `x` are read, their sums stored in its piece of the send buffer. -/
theorem wp_sums {Q : α → sProp 𝕄} {ox os : Fin 2 → ℕ} (hox : ox = ![384 * k.val, 0]) (hos : os = ![3 * k.val, 0])
    {hbx : ∀ a, ox a + S384x512.size a ≤ S768x512.size a} {hbs : ∀ a, os a + S3x128.size a ≤ S6x128.size a}
    {hl : xM.view.LoadsAt (Rect.unit (s := S768x512) ox S384x512.size hbx).toLoadRect}
    {hl' : sM.view.LoadsAt (Rect.unit (s := S6x128) os S3x128.size hbs).toLoadRect}
    {hx : (sM.access (Rect.unit (s := S6x128) os S3x128.size hbs)).Stores Finset.univ}
    {hm : (Finset.univ : Finset (Rect.unit (s := S6x128) os S3x128.size hbs).shape.Idx) = Finset.univ
      ∨ ∀ a, (Rect.unit (s := S6x128) os S3x128.size hbs).stride a = 1}
    {K : PUnit → Prog (TpuEff nD τ sig (Elt F) Λ₀ .tc) α} :
    iprop(xPts m c ∗ ∃ X, owns (c : Thread nD τ) (sendM k) fullShare X)
      ⊢ iprop((iprop(xPts m c ∗ sendPay m k c) -∗ wp frame (wpE (defs₀ (F := F)) 𝒱₀ (c : Thread nD τ) none) Set.univ (K ⟨⟩) Q)
          -∗ wp frame (wpE (defs₀ (F := F)) 𝒱₀ (c : Thread nD τ) none) Set.univ
            (.op (.load xM (Rect.unit (s := S768x512) ox S384x512.size hbx).toLoadRect hl) fun v =>
              .op (.load sM (Rect.unit (s := S6x128) os S3x128.size hbs).toLoadRect hl') fun _ =>
                .op (.store sM (Rect.unit (s := S6x128) os S3x128.size hbs) (k0_pay2 v) Finset.univ hx hm) K) Q) := by
  subst hox hos
  iintro ⟨Hx, ⟨%X, Hs⟩⟩ Hk
  iapply (wp_load_rect 𝒱₀ (c : Thread nD τ) none Set.univ (m := xM) (r := rectX k) (hl := hl) (Finset.subset_univ _)) $$ Hx
  iintro Hx
  iapply (wp_load_piece c sM (rectS k) (fun _ => rfl) X) $$ Hs
  iintro Hs
  iapply (wp_store_piece c sM (rectS k) (fun _ => rfl) X) $$ Hs
  iintro Hs
  iapply Hk
  isplitl [Hx]; · iexact Hx
  unfold sendPay sums xChunk
  iexact Hs

/-- The copy of chunk `k` to the partner `n`: the send buffer's piece is lent until the own send wait, the partner's receive
    piece comes back to it holding the sums. One receive credit less is owed. -/
theorem wp_exchange {Q : α → sProp 𝕄} (κ κ' : ℕ) (n : Dev nD) (hn : n = peer c) {sS sR : DmaSem sig} (hsS : sS = sSem k) (hsR : sR = rSem k) {os or : Fin 2 → ℕ} (hos : os = ![3 * k.val, 0]) (hor : or = ![3 * k.val, 0])
    {hbs : ∀ a, os a + S3x128.size a ≤ S6x128.size a} {hbr : ∀ a, or a + S3x128.size a ≤ S8x128.size a}
    {h₁ : ∀ a, (Rect.unit (s := S6x128) os S3x128.size hbs).stride a = 1} {h₂ : ∀ a, (Rect.unit (s := S8x128) or S3x128.size hbr).stride a = 1}
    {hsc : ((rM : Memref sig (Dev.tc n : Thread nD τ).2.kind .vmem S8x128 .f32).slice (Rect.unit (s := S8x128) or S3x128.size hbr) h₂).view.ref.isScScratch = false}
    {hsrc : (sM.slice (Rect.unit (s := S6x128) os S3x128.size hbs) h₁).view.WordExact}
    {hdst : (rM.slice (Rect.unit (s := S8x128) or S3x128.size hbr) h₂).view.WordExact}
    {hsem : DmaTarget.Typed .vmem (.dma sR)
      (.remote (Dev.tc n : Thread nD τ) (rM.slice (Rect.unit (s := S8x128) or S3x128.size hbr) h₂) (.dma sS) hsc)}
    {O O' : CellTallies nD τ sig Unit} (hO : O' = O + tallyAt (recvCell k (peer c)) () N) (W : Waits sig Unit)
    {K : PUnit → Prog (TpuEff nD τ sig (Elt F) Λ₀ .tc) α} :
    iprop(cellInv ER (rd m) κ (sendCell k c) ∗ cellInv ER (rd m) κ' (recvCell k (peer c))
        ∗ sendPay m k c ∗ (∃ X, owns (peer c : Thread nD τ) (recvM k) fullShare X) ∗ owes (c : Thread nD τ) O' W
        ∗ dutyTok ER (sendCell k c) 0 () ∗ reached ER (sendCell k c) 0
        ∗ dutyTok ER (recvCell k (peer c)) 0 () ∗ reached ER (recvCell k (peer c)) 0)
      ⊢ iprop(((cred (tallyAt (sendCell k c) () N) ∗ owes (c : Thread nD τ) O W)
            -∗ wp frame (wpE (defs₀ (F := F)) 𝒱₀ (c : Thread nD τ) none) Set.univ (K ⟨⟩) Q)
          -∗ wp frame (wpE (defs₀ (F := F)) 𝒱₀ (c : Thread nD τ) none) Set.univ
            (.op (.enqueueDma (sM.slice (Rect.unit (s := S6x128) os S3x128.size hbs) h₁)
              (.remote (Dev.tc n : Thread nD τ) (rM.slice (Rect.unit (s := S8x128) or S3x128.size hbr) h₂) (.dma sS) hsc)
              (.dma sR) hsrc hdst hsem) K) Q) := by
  subst hn hsS hsR hos hor
  unfold sendPay owns
  iintro ⟨HI, HI', ⟨%fs, %hfs, Hs⟩, ⟨%X, %fd, %hfd, Hd⟩, HO, Ht, Hr, Ht', Hr'⟩
  iapply (Rounds.wp_send_pointsTo 𝒱₀ ER (rd m) (c : Thread nD τ) none (c' := (peer c : Thread nD τ)) (src := sendM k) (dst := recvM k)
    (sS := .dma (sSem k)) (sem := .dma (rSem k)) (q := fullShare) (fs := fs) (fd := fd) (κ₁ := κ) (κ₂ := κ')
    (r₁ := 0) (r₂ := 0) (d₁ := ()) (d₂ := ()) (by rw [duties_send]; exact Finset.mem_singleton_self _)
    (by rw [duties_recv]; exact Finset.mem_singleton_self _) () () N rfl (amount_dma m c _) (amount_dma m (peer c) _) O hO (W := W)
    (by
      rw [payload_send]; unfold sendPay owns
      iintro H; iexists fs; isplitr; · ipureintro; exact hfs
      iexact H)
    (by
      rw [payload_recv]; unfold recvPay owns; rw [peer_peer]
      iintro H; iexists (recvM k).view.write (Elt F) fd ((sendM k).view.read (Elt F) fs) Finset.univ
      isplitr; · ipureintro; exact (View.read_write_univ _ _).trans hfs
      iexact H)) $$ [HI HI' Hs Hd HO Ht Hr Ht' Hr']
  isplitl [HI]; · iexact HI
  isplitl [HI']; · iexact HI'
  isplitl [Hs]; · iexact Hs
  isplitl [Hd]; · iexact Hd
  isplitl [HO]; · iexact HO
  isplitl [Ht]; · iexact Ht
  isplitl [Hr]; · iexact Hr
  isplitl [Ht'] <;> iassumption

/-- A wait, owing nothing, on a DMA cell with one duty: the cell's payload comes back and its round is over. -/
theorem wp_wait_chunk {Q : α → sProp 𝕄} {q' : DmaSem sig} (q : DmaSem sig) (hq' : q' = q) (hq : (rd (F := F) m).duties ((c : Thread nD τ), .dma q) 0 = {()}) (κ : ℕ) (W : Waits sig Unit)
    {src dst : Memref sig .tc .vmem S3x128 .f32} {hsrc : src.view.WordExact} {hdst : dst.view.WordExact} (hN : dst.view.dmaCredit = N)
    {K : PUnit → Prog (TpuEff nD τ sig (Elt F) Λ₀ .tc) α} :
    iprop(cellInv ER (rd m) κ ((c : Thread nD τ), .dma q) ∗ cred (tallyAt ((c : Thread nD τ), SemLoc.dma q) () N)
        ∗ owes (c : Thread nD τ) 0 W ∗ atPos ER ((c : Thread nD τ), .dma q) 0 ∅ 0)
      ⊢ iprop(((owes (c : Thread nD τ) 0 (insert (SemLoc.dma q, ()) W) ∗ atPos ER ((c : Thread nD τ), .dma q) (0 + 1) ∅ 0
            ∗ (rd (F := F) m).payload ((c : Thread nD τ), .dma q) 0 ())
            -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 q' src dst hsrc hdst) K) Q) := by
  subst q'
  iintro ⟨#HI, Hc, HO, Hat⟩ Hk
  iapply (Rounds.wp_wait_rest_token 𝒱₀ ER (rd m) (c : Thread nD τ) none (κ := κ)
      (wpE_waitDma2_eq 𝒱₀ (c : Thread nD τ) none Set.univ) (Set.mem_univ _) () (O := 0) (W := W) (R := 0) (m := 0) (T := ∅)
      (by rw [Nat.zero_add, hN, expect_dma m c q hq])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_of m _ hq)); iexact Hpay

theorem hz : (![0, 0] : Fin 2 → Nat) = fun _ => 0 := funext fun a => by fin_cases a <;> rfl
/-- The whole row of `gamma`, read off its staging buffer. -/
theorem read_gamma : gM.view.readAt (Elt F) (Rect.unit (s := S1x512) ![0, 0] S1x512.size inb_S1x512_S1x512_0_0).toLoadRect (gin m c) = gin m c :=
  Memref.readAt_unit_zero (Elt F) cc0_stg1_0 hz _ _

/-- The result's chunk `k`: both partial sums, the rows of `x` and `gamma` are read, the normalised rows stored. -/
theorem wp_finish {Q : α → sProp 𝕄} {ox os or : Fin 2 → ℕ} (hox : ox = ![384 * k.val, 0]) (hos : os = ![3 * k.val, 0]) (hor : or = ![3 * k.val, 0])
    {hbx : ∀ a, ox a + S384x512.size a ≤ S768x512.size a} {hbs : ∀ a, os a + S3x128.size a ≤ S6x128.size a}
    {hbr : ∀ a, or a + S3x128.size a ≤ S8x128.size a}
    {hls : sM.view.LoadsAt (Rect.unit (s := S6x128) os S3x128.size hbs).toLoadRect}
    {hlr : rM.view.LoadsAt (Rect.unit (s := S8x128) or S3x128.size hbr).toLoadRect}
    {hlx : xM.view.LoadsAt (Rect.unit (s := S768x512) ox S384x512.size hbx).toLoadRect}
    {hlg : gM.view.LoadsAt (Rect.unit (s := S1x512) ![0, 0] S1x512.size inb_S1x512_S1x512_0_0).toLoadRect}
    {hlo : oM.view.LoadsAt (Rect.unit (s := S768x512) ox S384x512.size hbx).toLoadRect}
    {hx : (oM.access (Rect.unit (s := S768x512) ox S384x512.size hbx)).Stores Finset.univ}
    {hm : (Finset.univ : Finset (Rect.unit (s := S768x512) ox S384x512.size hbx).shape.Idx) = Finset.univ
      ∨ ∀ a, (Rect.unit (s := S768x512) ox S384x512.size hbx).stride a = 1}
    (f : Vec F S768x512 .f32) {K : PUnit → Prog (TpuEff nD τ sig (Elt F) Λ₀ .tc) α} :
    iprop(sendPay m k c ∗ recvPay m k c ∗ xPts m c ∗ gPts m c ∗ oPts c f)
      ⊢ iprop((iprop(sendPay m k c ∗ recvPay m k c ∗ xPts m c ∗ gPts m c
              ∗ oPts c ((oM.access (rectX k)).write (Elt F) f (outChunk m k c) Finset.univ))
            -∗ wp frame (wpE (defs₀ (F := F)) 𝒱₀ (c : Thread nD τ) none) Set.univ (K ⟨⟩) Q)
          -∗ wp frame (wpE (defs₀ (F := F)) 𝒱₀ (c : Thread nD τ) none) Set.univ
            (.op (.load sM (Rect.unit (s := S6x128) os S3x128.size hbs).toLoadRect hls) fun a =>
              .op (.load rM (Rect.unit (s := S8x128) or S3x128.size hbr).toLoadRect hlr) fun b =>
              .op (.load xM (Rect.unit (s := S768x512) ox S384x512.size hbx).toLoadRect hlx) fun x =>
              .op (.load gM (Rect.unit (s := S1x512) ![0, 0] S1x512.size inb_S1x512_S1x512_0_0).toLoadRect hlg) fun g =>
              .op (.load oM (Rect.unit (s := S768x512) ox S384x512.size hbx).toLoadRect hlo) fun _ =>
              .op (.store oM (Rect.unit (s := S768x512) ox S384x512.size hbx) (k0_pay1 a b x g) Finset.univ hx hm) K) Q) := by
  subst hox hos hor
  unfold sendPay recvPay
  iintro ⟨Hs, Hr, Hx, Hg, Ho⟩ Hk
  iapply (wp_load_piece c sM (rectS k) (fun _ => rfl) (sums m k c)) $$ Hs
  iintro Hs
  iapply (wp_load_piece c rM (rectR k) (fun _ => rfl) (sums m k (peer c))) $$ Hr
  iintro Hr
  iapply (wp_load_rect 𝒱₀ (c : Thread nD τ) none Set.univ (m := xM) (r := rectX k) (hl := hlx) (Finset.subset_univ _)) $$ Hx
  iintro Hx
  iapply (wp_load 𝒱₀ (c : Thread nD τ) none Set.univ (m := gM) (Finset.subset_univ _)) $$ Hg
  iintro Hg
  rw [read_gamma]
  iapply (wp_load 𝒱₀ (c : Thread nD τ) none Set.univ (m := oM) (Finset.subset_univ _)) $$ Ho
  iintro Ho
  iapply (wp_store 𝒱₀ (c : Thread nD τ) none Set.univ (m := oM) (r := rectX k) (Mk := Finset.univ) (Finset.subset_univ _)) $$ Ho
  iintro Ho
  iapply Hk
  isplitl [Hs]; · iexact Hs
  isplitl [Hr]; · iexact Hr
  isplitl [Hx]; · iexact Hx
  isplitl [Hg]; · iexact Hg
  iexact Ho

end Phases

/-! ## What the two stores leave -/

/-- Every row of the block lies in one of the two chunks. -/
theorem chunk_cover (i : S768x512.Idx) : ∃ k x, (rectX k).emb x = i := by
  have h0 : (i 0 : ℕ) < 768 := (i 0).isLt
  have h1 : (i 1 : ℕ) < 512 := (i 1).isLt
  have hk : ∃ k : Fin 2, 384 * k.val ≤ (i 0 : ℕ) ∧ (i 0 : ℕ) < 384 * k.val + 384 := by
    rcases Nat.lt_or_ge (i 0 : ℕ) 384 with h | h
    · exact ⟨0, Nat.zero_le _, by show _ < 384 * 0 + 384; omega⟩
    · exact ⟨1, by show 384 * 1 ≤ _; omega, by show _ < 384 * 1 + 384; omega⟩
  obtain ⟨k, hlo, hhi⟩ := hk
  have hi : i ∈ (rectX k).set := Rect.mem_set_unit.mpr fun a => by
    match a with
    | ⟨0, _⟩ => exact ⟨hlo, hhi⟩
    | ⟨1, _⟩ => exact ⟨Nat.zero_le _, by show (i 1 : ℕ) < 0 + 512; omega⟩
  obtain ⟨x, hx⟩ := (rectX k).exists_idx_of_mem hi
  exact ⟨k, x, hx⟩

theorem rectX_disjoint : Disjoint (rectX 0).set (rectX 1).set := Rect.unit_disjoint 0 (.inl (by decide))

/-- Two stores on disjoint rectangles: the second rectangle holds what was stored second. -/
theorem two_writes_snd {sh : Shape} (v : View sig .tc .vmem sh .f32) (r₀ r₁ : Rect sh) (f : v.ty.Contents (Elt F))
    (o₀ : r₀.shape.Idx → Elt F .f32) (o₁ : r₁.shape.Idx → Elt F .f32) (x : r₁.shape.Idx) :
    (v.slice r₁).write (Elt F) ((v.slice r₀).write (Elt F) f o₀ Finset.univ) o₁ Finset.univ ((v.slice r₁).emb x)
      = cast (congrArg (Elt F) v.elt_eq.symm) (o₁ x) :=
  View.write_emb_of_mem (v := v.slice r₁) _ _ (Finset.mem_univ x)

/-- Two stores on disjoint rectangles: the first rectangle still holds what was stored first. -/
theorem two_writes_fst {sh : Shape} (v : View sig .tc .vmem sh .f32) (r₀ r₁ : Rect sh) (hd : Disjoint r₀.set r₁.set) (f : v.ty.Contents (Elt F))
    (o₀ : r₀.shape.Idx → Elt F .f32) (o₁ : r₁.shape.Idx → Elt F .f32) (x : r₀.shape.Idx) :
    (v.slice r₁).write (Elt F) ((v.slice r₀).write (Elt F) f o₀ Finset.univ) o₁ Finset.univ ((v.slice r₀).emb x)
      = cast (congrArg (Elt F) v.elt_eq.symm) (o₀ x) := by
  have h : (v.slice r₀).emb x ∉ (v.slice r₁).setOn Finset.univ := by
    rw [View.setOn_univ]
    have hs : Disjoint (v.slice r₀).set (v.slice r₁).set := View.disjoint_slice hd
    exact fun hm => Finset.disjoint_left.mp hs (View.emb_mem_set (v.slice r₀) x) hm
  exact (View.write_of_not_mem (v := v.slice r₁) _ _ _ h).trans (View.write_emb_of_mem (v := v.slice r₀) _ _ (Finset.mem_univ x))

/-- Chunk `k` of the result's buffer, after both stores over any contents. -/
theorem stored_emb (f : Vec F S768x512 .f32) (o : (k : Fin 2) → Vec F S384x512 .f32) (k : Fin 2) (x : S384x512.Idx) :
    (oM.access (rectX 1)).write (Elt F) ((oM.access (rectX 0)).write (Elt F) f (o 0) Finset.univ) (o 1) Finset.univ ((rectX k).emb x) = o k x := by
  match k, x with
  | 0, x => exact two_writes_fst oM.view (rectX 0) (rectX 1) rectX_disjoint f (o 0) (o 1) x
  | 1, x => exact two_writes_snd oM.view (rectX 0) (rectX 1) f (o 0) (o 1) x

/-- The result's buffer on chunk `k` holds that chunk. -/
theorem outAt_emb (c : Dev nD) (k : Fin 2) (x : S384x512.Idx) : outAt m c ((rectX k).emb x) = outChunk m k c x :=
  stored_emb _ (fun k => outChunk m k c) k x

/-- Whatever the buffer held, the two stores leave `outAt`. -/
theorem stored_eq (c : Dev nD) (f : Vec F S768x512 .f32) :
    (oM.access (rectX 1)).write (Elt F) ((oM.access (rectX 0)).write (Elt F) f (outChunk m 0 c) Finset.univ) (outChunk m 1 c) Finset.univ
      = outAt m c := by
  funext i
  obtain ⟨k, x, rfl⟩ := chunk_cover i
  exact (stored_emb f (fun k => outChunk m k c) k x).trans (outAt_emb m c k x).symm

end Cert.RmsNorm

end
-- ==== Proof.Body.lean ====
/-
The kernel body's run on one device: the signal, the partial sums of each chunk, the two copies, the waits, and the
two chunks of the result. Each phase is stated once for either chunk.
-/
module

public import proofs.«01_k».proof.Proof.Phases

@[expose] public section

noncomputable section

namespace Cert.RmsNorm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The body -/

/-- The four pieces of the two scratch buffers, at contents not chosen. -/
def pieces (c : Dev nD) : sProp 𝕄 :=
  iprop((∃ X, owns (c : Thread nD τ) (sendM 0) fullShare X) ∗ (∃ X, owns (c : Thread nD τ) (sendM 1) fullShare X)
    ∗ (∃ X, owns (c : Thread nD τ) (recvM 0) fullShare X) ∗ (∃ X, owns (c : Thread nD τ) (recvM 1) fullShare X))

def talkPre (K : GSem nD τ sig → ℕ) (c : Dev nD) (W : Waits sig Unit) : sProp 𝕄 :=
  iprop(opened m K c ∗ creds c ∗ levAts L lv ∗ pieces (F := F) c ∗ xPts m c ∗ gPts m c ∗ (∃ f, oPts c f) ∗ owes (c : Thread nD τ) (O₀ c) W)

/-- All counters back at zero, the pieces back, the inputs as they were, the result computed, nothing owed. -/
def talkPost (c : Dev nD) : sProp 𝕄 :=
  iprop(semVal (barCell c) 0 ∗ (semVal (sendCell 0 c) 0 ∗ semVal (sendCell 1 c) 0 ∗ semVal (recvCell 0 c) 0 ∗ semVal (recvCell 1 c) 0)
    ∗ pieces (F := F) c ∗ xPts m c ∗ gPts m c ∗ oPts c (outAt m c) ∗ ∃ W, owes (c : Thread nD τ) (0 : CellTallies nD τ sig Unit) W)

set_option maxHeartbeats 1000000 in
/-- The body runs from `talkPre` to `talkPost`. -/
theorem talkRun (K : GSem nD τ sig → ℕ) (c : Dev nD) (W : Waits sig Unit) (Kt : PUnit → sProp 𝕄) :
    iprop(talkPre m K c W ∗ (talkPost m c -∗ Kt ⟨⟩))
      ⊢ wp frame (wpE (defs₀ (F := F)) 𝒱₀ c none) Set.univ
          (cc0_body xM (Memref.isWhole_whole _) gM (Memref.isWhole_whole _) oM (Memref.isWhole_whole _)
            sM (Memref.isWhole_whole _) rM (Memref.isWhole_whole _) cc0_scratch2 cc0_scratch3) Kt := by
  simp only [cc0_body_eq_skeleton]; unfold cc0_body_skel
  simp only [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, Prog.bind_assoc, wp_deviceId]
  simp only [pay3_eq, pay4_eq]
  unfold talkPre opened invs payToks creds pieces
  iintro ⟨⟨⟨⟨#HIB, #HIs0, #HIs1, #HIr0, #HIr1, #HIBp, #HIrp0, #HIrp1⟩, HatB, ⟨HatS0, #HrS0⟩, ⟨HatS1, #HrS1⟩, ⟨HatR0, #HrR0⟩, ⟨HatR1, #HrR1⟩,
      #HrBp, HtB, HtR0, HtR1, HtS0, HtS1⟩, ⟨HcB, HcR0, HcR1⟩, #Hlev, ⟨Hs0, Hs1, Hr0, Hr1⟩, Hx, Hg, ⟨%f, Ho⟩, HO⟩, Hk⟩
  simp only [dev1_eq c]
  -- the signal to the partner hands it both landing pieces
  unfold O₀
  iapply (Rounds.wp_signal 𝒱₀ ER (rd m) (c : Thread nD τ) none (dst := (peer c : Thread nD τ)) (κ := K (barCell (peer c)))
      (d := ()) (by rw [duties_bar]; exact Finset.mem_singleton_self _) ((amount_bar m (peer c)).trans (by decide)) () (O₂ c) rfl)
    $$ [HO HtB Hr0 Hr1]
  · isplitr; · iexact HIBp
    isplitl [HO]; · iexact HO
    isplitl [HtB]; · iexact HtB
    isplitl [Hr0 Hr1]
    · rw [payload_bar]; unfold barPay landing; rw [peer_peer]
      isplitl [Hr0]
      · isplitl [Hr0]; · iexact Hr0
        iexact HrR0
      · isplitl [Hr1]; · iexact Hr1
        iexact HrR1
    · iexact HrBp
  iintro HO
  iapply (wp_sums m c 0 (ox := ![0, 0]) (os := ![0, 0]) rfl rfl) $$ [Hx Hs0]
  · isplitl [Hx] <;> iassumption
  iintro ⟨Hx, Hs0⟩
  -- the barrier wait brings the partner's landing pieces
  iapply (Rounds.wp_wait_rest_token 𝒱₀ ER (rd m) (c : Thread nD τ) none (κ := K (barCell c))
      (wpE_semWait_eq 𝒱₀ (c : Thread nD τ) none Set.univ) (Set.mem_univ _) () (O := O₂ c) (W := W) (R := 0) (m := 0) (T := ∅)
      (by rw [expect_bar]; decide)) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hp := (Entails.of_eq ((rest_of m _ (duties_bar m c)).trans (payload_bar m c))) $$ Hpay
  unfold barPay landing
  icases Hp with ⟨⟨Hd0, #HrRp0⟩, ⟨Hd1, #HrRp1⟩⟩
  iapply (wp_exchange m c 0 (K (sendCell 0 c)) (K (recvCell 0 (peer c))) _ (dev2_eq c) send_slice0 recv_slice0 (os := ![0, 0]) (or := ![0, 0]) rfl rfl
    (O := tallyAt (recvCell 1 (peer c)) () N) (O' := O₂ c) rfl _) $$ [Hs0 Hd0 HO HtS0 HtR0]
  · isplitr; · iexact HIs0
    isplitr; · iexact HIrp0
    isplitl [Hs0]; · iexact Hs0
    isplitl [Hd0]; · iexact Hd0
    isplitl [HO]; · iexact HO
    isplitl [HtS0]; · iexact HtS0
    isplitr; · iexact HrS0
    isplitl [HtR0]; · iexact HtR0
    iexact HrRp0
  iintro ⟨HcS0, HO⟩
  iapply (wp_sums m c 1 (ox := ![384, 0]) (os := ![3, 0]) rfl rfl) $$ [Hx Hs1]
  · isplitl [Hx] <;> iassumption
  iintro ⟨Hx, Hs1⟩
  iapply (wp_exchange m c 1 (K (sendCell 1 c)) (K (recvCell 1 (peer c))) _ (dev3_eq c) send_slice1 recv_slice1 (os := ![3, 0]) (or := ![3, 0]) rfl rfl
    (O := 0) (O' := tallyAt (recvCell 1 (peer c)) () N) (zero_add _).symm _) $$ [Hs1 Hd1 HO HtS1 HtR1]
  · isplitr; · iexact HIs1
    isplitr; · iexact HIrp1
    isplitl [Hs1]; · iexact Hs1
    isplitl [Hd1]; · iexact Hd1
    isplitl [HO]; · iexact HO
    isplitl [HtS1]; · iexact HtS1
    isplitr; · iexact HrS1
    isplitl [HtR1]; · iexact HtR1
    iexact HrRp1
  iintro ⟨HcS1, HO⟩
  -- chunk 0: the send wait, the receive wait, the result's rows
  iapply (wp_wait_chunk m c (sSem 0) send_slice0 (duties_send m c 0) (K (sendCell 0 c)) _
    (dst := sM.slice (Rect.unit (s := S6x128) ![0, 0] S3x128.size inb_S6x128_S3x128_0_0) (fun _ => rfl)) rfl) $$ [HcS0 HO HatS0]
  · isplitr; · iexact HIs0
    isplitl [HcS0]; · iexact HcS0
    isplitl [HO] <;> iassumption
  iintro ⟨HO, HatS0, Hp⟩
  ihave Hs0 := (Entails.of_eq (payload_send m c 0)) $$ Hp
  iapply (wp_wait_chunk m c (rSem 0) recv_slice0 (duties_recv m c 0) (K (recvCell 0 c)) _
    (dst := rM.slice (Rect.unit (s := S8x128) ![0, 0] S3x128.size inb_S8x128_S3x128_0_0) (fun _ => rfl)) rfl) $$ [HcR0 HO HatR0]
  · isplitr; · iexact HIr0
    isplitl [HcR0]; · iexact HcR0
    isplitl [HO] <;> iassumption
  iintro ⟨HO, HatR0, Hp⟩
  ihave Hr0 := (Entails.of_eq (payload_recv m c 0)) $$ Hp
  iapply (wp_finish m c 0 (ox := ![0, 0]) (os := ![0, 0]) (or := ![0, 0]) rfl rfl rfl f) $$ [Hs0 Hr0 Hx Hg Ho]
  · isplitl [Hs0]; · iexact Hs0
    isplitl [Hr0]; · iexact Hr0
    isplitl [Hx]; · iexact Hx
    isplitl [Hg] <;> iassumption
  iintro ⟨Hs0, Hr0, Hx, Hg, Ho⟩
  -- chunk 1, the same
  iapply (wp_wait_chunk m c (sSem 1) send_slice1 (duties_send m c 1) (K (sendCell 1 c)) _
    (dst := sM.slice (Rect.unit (s := S6x128) ![3, 0] S3x128.size inb_S6x128_S3x128_3_0) (fun _ => rfl)) rfl) $$ [HcS1 HO HatS1]
  · isplitr; · iexact HIs1
    isplitl [HcS1]; · iexact HcS1
    isplitl [HO] <;> iassumption
  iintro ⟨HO, HatS1, Hp⟩
  ihave Hs1 := (Entails.of_eq (payload_send m c 1)) $$ Hp
  iapply (wp_wait_chunk m c (rSem 1) recv_slice1 (duties_recv m c 1) (K (recvCell 1 c)) _
    (dst := rM.slice (Rect.unit (s := S8x128) ![3, 0] S3x128.size inb_S8x128_S3x128_3_0) (fun _ => rfl)) rfl) $$ [HcR1 HO HatR1]
  · isplitr; · iexact HIr1
    isplitl [HcR1]; · iexact HcR1
    isplitl [HO] <;> iassumption
  iintro ⟨HO, HatR1, Hp⟩
  ihave Hr1 := (Entails.of_eq (payload_recv m c 1)) $$ Hp
  iapply (wp_finish m c 1 (ox := ![384, 0]) (os := ![3, 0]) (or := ![3, 0]) rfl rfl rfl _) $$ [Hs1 Hr1 Hx Hg Ho]
  · isplitl [Hs1]; · iexact Hs1
    isplitl [Hr1]; · iexact Hr1
    isplitl [Hx]; · iexact Hx
    isplitl [Hg] <;> iassumption
  iintro ⟨Hs1, Hr1, Hx, Hg, Ho⟩
  rw [stored_eq, wp_ret]
  -- the five cells close
  imod (close m (K (barCell c)) (barCell c)) $$ [HatB] with HzB
  · isplitr; · iexact HIB
    iexact HatB
  imod (close m (K (sendCell 0 c)) (sendCell 0 c)) $$ [HatS0] with HzS0
  · isplitr; · iexact HIs0
    iexact HatS0
  imod (close m (K (sendCell 1 c)) (sendCell 1 c)) $$ [HatS1] with HzS1
  · isplitr; · iexact HIs1
    iexact HatS1
  imod (close m (K (recvCell 0 c)) (recvCell 0 c)) $$ [HatR0] with HzR0
  · isplitr; · iexact HIr0
    iexact HatR0
  imod (close m (K (recvCell 1 c)) (recvCell 1 c)) $$ [HatR1] with HzR1
  · isplitr; · iexact HIr1
    iexact HatR1
  imodintro
  iapply Hk
  unfold talkPost pieces sendPay recvPay
  isplitl [HzB]; · iexact HzB
  isplitl [HzS0 HzS1 HzR0 HzR1]
  · isplitl [HzS0]; · iexact HzS0
    isplitl [HzS1]; · iexact HzS1
    isplitl [HzR0] <;> iassumption
  isplitl [Hs0 Hs1 Hr0 Hr1]
  · isplitl [Hs0]; · iexists _; iexact Hs0
    isplitl [Hs1]; · iexists _; iexact Hs1
    isplitl [Hr0]; · iexists _; iexact Hr0
    iexists _; iexact Hr1
  isplitl [Hx]; · iexact Hx
  isplitl [Hg]; · iexact Hg
  isplitl [Ho]; · iexact Ho
  iexists _; iexact HO

end Cert.RmsNorm

end
-- ==== Proof.Obligation.lean ====
/-
The proof data of the one pipeline call: what each window holds after the body, the invariant before and after it, what is
owed; and the body's obligation at the one grid point.
-/
module

public import proofs.«01_k».proof.Proof.Body

@[expose] public section

noncomputable section

namespace Cert.RmsNorm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The scratch buffers, as pieces and rests -/

/-- What of a scratch buffer lies in neither chunk's piece: nothing of the send buffer, the padding rows of the other. -/
def scratchRest (c : Dev nD) : sProp 𝕄 :=
  iprop((∃ f, sM.view.loc (c : Thread nD τ) ↦[(sM.view.set \ (sM.view.slice (rectS 0)).set) \ (sM.view.slice (rectS 1)).set]{fullShare} f)
    ∗ ∃ f, rM.view.loc (c : Thread nD τ) ↦[(rM.view.set \ (rM.view.slice (rectR 0)).set) \ (rM.view.slice (rectR 1)).set]{fullShare} f)

theorem rectS_disjoint : Disjoint (rectS 0).set (rectS 1).set := Rect.unit_disjoint 0 (.inl (by decide))
theorem rectR_disjoint : Disjoint (rectR 0).set (rectR 1).set := Rect.unit_disjoint 0 (.inl (by decide))

/-- The two scratch buffers whole. -/
theorem scratch_whole (c : Dev nD) : (Pipeline.scopedRest spec0 c : sProp 𝕄)
    = iprop((∃ f, sM.view.loc (c : Thread nD τ) ↦[sM.view.set]{fullShare} f) ∗ ∃ f, rM.view.loc (c : Thread nD τ) ↦[rM.view.set]{fullShare} f) := by
  rw [scopedRest0_eq]
  simp only [sM, rM, Memref.view_whole, View.set_whole]

theorem scratch_split (c : Dev nD) : (Pipeline.scopedRest spec0 c : sProp 𝕄) ⊢ iprop(pieces (F := F) c ∗ scratchRest c) := by
  rw [scratch_whole]
  unfold pieces scratchRest
  iintro ⟨Hs, Hr⟩
  ihave Hs := (split_two c sM (rectS 0) (rectS 1) (fun _ => rfl) (fun _ => rfl) rectS_disjoint) $$ Hs
  ihave Hr := (split_two c rM (rectR 0) (rectR 1) (fun _ => rfl) (fun _ => rfl) rectR_disjoint) $$ Hr
  icases Hs with ⟨H0, H1, Hs⟩
  icases Hr with ⟨H2, H3, Hr⟩
  isplitl [H0 H1 H2 H3]
  · isplitl [H0]; · iexact H0
    isplitl [H1]; · iexact H1
    isplitl [H2]; · iexact H2
    iexact H3
  isplitl [Hs]; · iexact Hs
  iexact Hr

theorem scratch_join (c : Dev nD) : iprop(pieces (F := F) c ∗ scratchRest c) ⊢ (Pipeline.scopedRest spec0 c : sProp 𝕄) := by
  rw [scratch_whole]
  unfold pieces scratchRest
  iintro ⟨⟨H0, H1, H2, H3⟩, Hs, Hr⟩
  isplitl [H0 H1 Hs]
  · iapply (join_two c sM (rectS 0) (rectS 1) (fun _ => rfl) (fun _ => rfl) rectS_disjoint)
    isplitl [H0]; · iexact H0
    isplitl [H1]; · iexact H1
    iexact Hs
  · iapply (join_two c rM (rectR 0) (rectR 1) (fun _ => rfl) (fun _ => rfl) rectR_disjoint)
    isplitl [H2]; · iexact H2
    isplitl [H3]; · iexact H3
    iexact Hr

/-! ## The proof data -/

/-- Before the body: the ghost state with the scoped cells open, the credits, the pieces. -/
def Φ₀ (c : Dev nD) : sProp 𝕄 :=
  iprop((∃ K, opened m K c) ∗ creds c ∗ levAts L lv ∗ pieces (F := F) c ∗ scratchRest c ∗ ∃ r, prngReg c r)
/-- After it: every counter at zero, the pieces back. -/
def Φ₁ (c : Dev nD) : sProp 𝕄 :=
  iprop(semVal (barCell c) 0 ∗ (semVal (sendCell 0 c) 0 ∗ semVal (sendCell 1 c) 0 ∗ semVal (recvCell 0 c) 0 ∗ semVal (recvCell 1 c) 0)
    ∗ pieces (F := F) c ∗ scratchRest c ∗ ∃ r, prngReg c r)

def dat (c : Dev nD) : Dat τ (Elt F) Unit ℕ UU ℕ cfg0 c where
  A w := V m c (Pipeline.arrRef spec0 w)
  after w _ := match w with
    | ⟨0, _⟩ => xin m c
    | ⟨1, _⟩ => gin m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dat m c).share w = fullShare := by unfold Dat.share; split <;> rfl

/-! ## The obligation -/

theorem before_x (c : Dev nD) (d) : (dat m c).before (0 : Fin 3) t0_0 d = xin m c := by
  unfold Dat.before; rw [if_pos (fetch0_0 t0_0)]; rfl
theorem before_g (c : Dev nD) (d) : (dat m c).before (1 : Fin 3) t0_0 d = gin m c := by
  unfold Dat.before; rw [if_pos (fetch0_1 t0_0)]; rfl

/-- A device's buffer `b` held at `X`, as the pipeline states it. -/
abbrev staged (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

def bodyPre (c : Dev nD) : sProp 𝕄 :=
  iprop(Φ₀ m c ∗ (dat m c).owesAt () t0_0.castSucc
    ∗ (∃ d, staged c cc0_stg0_0 ((dat m c).before (0 : Fin 3) t0_0 d))
    ∗ (∃ d, staged c cc0_stg1_0 ((dat m c).before (1 : Fin 3) t0_0 d))
    ∗ (∃ d, staged c cc0_stg2_0 ((dat m c).before (2 : Fin 3) t0_0 d)))
def bodyPost (c : Dev nD) : sProp 𝕄 :=
  iprop(Φ₁ c ∗ (dat m c).owesAt () t0_0.succ
    ∗ staged c cc0_stg0_0 (xin m c) ∗ staged c cc0_stg1_0 (gin m c) ∗ staged c cc0_stg2_0 (outAt m c))

/-- The body at the point, from what the pipeline holds before it to what it wants after. -/
theorem body_run (c : Dev nD) : bodyPre m c ⊢ wp frame (wpE (defs₀ (F := F)) 𝒱₀ c none) Set.univ
    (cc0_body xM (Memref.isWhole_whole _) gM (Memref.isWhole_whole _) oM (Memref.isWhole_whole _)
      sM (Memref.isWhole_whole _) rM (Memref.isWhole_whole _) cc0_scratch2 cc0_scratch3) (fun _ => bodyPost m c) := by
  unfold bodyPre Φ₀ Dat.owesAt Pipeline.owesWithin
  rw [show (dat m c).owed t0_0.castSucc = O₀ c from rfl]
  iintro ⟨⟨⟨%K, Hg⟩, Hc, #Hlev, Hp, Hrest, Hprng⟩, ⟨%W, -, HO⟩, ⟨%d0, %f0, %h0, Hx⟩, ⟨%d1, %f1, %h1, Hgm⟩, ⟨%d2, %f2, -, Ho⟩⟩
  rw [before_x] at h0; rw [before_g] at h1; subst h0 h1
  iapply (talkRun m K c W (fun _ => bodyPost m c))
  isplitl [Hg Hc Hp HO Hx Hgm Ho]
  · unfold talkPre
    isplitl [Hg]; · iexact Hg
    isplitl [Hc]; · iexact Hc
    isplitr; · iexact Hlev
    isplitl [Hp]; · iexact Hp
    isplitl [Hx]; · iexact Hx
    isplitl [Hgm]; · iexact Hgm
    isplitl [Ho]; · iexists f2; iexact Ho
    iexact HO
  unfold talkPost bodyPost Φ₁ Dat.owesAt Pipeline.owesWithin
  rw [show (dat m c).owed t0_0.succ = 0 from rfl]
  iintro ⟨Hb, Hz, Hp, Hx, Hgm, Ho, ⟨%W', HO⟩⟩
  isplitl [Hb Hz Hp Hrest Hprng]
  · isplitl [Hb]; · iexact Hb
    isplitl [Hz]; · iexact Hz
    isplitl [Hp]; · iexact Hp
    isplitl [Hrest] <;> iassumption
  isplitl [HO]
  · iexists W'; isplitr; · ipureintro; exact fun _ _ => Or.inl trivial
    iexact HO
  isplitl [Hx]; · iexists _; isplitr; · (ipureintro; rfl)
                  iexact Hx
  isplitl [Hgm]; · iexists _; isplitr; · (ipureintro; rfl)
                   iexact Hgm
  iexists _; isplitr; · (ipureintro; rfl)
  iexact Ho

set_option maxRecDepth 4000 in
/-- The pipeline's obligation on its body. -/
theorem body_obligation (c : Dev nD) : BodyObligation (dat (F := F) m c) (defs₀ (F := F)) 𝒱₀ () Set.univ := fun t => by
  rw [fin_N0 t]
  rw [bigSep_W0, bigSep_W0]
  simp only [owns_whole_eq]
  exact body_run m c

end Cert.RmsNorm

end
-- ==== Proof.Dealing.lean ====
/-
What the launch deals: the ghost state of the twenty cells, each device's share of it, and the credit each device waits with.
-/
module

public import proofs.«01_k».proof.Proof.Obligation

@[expose] public section

noncomputable section

namespace Cert.RmsNorm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The cells -/

theorem osem_inj : Function.Injective osem := by decide
theorem osem_ne_bar : ∀ k : Fin 4, osem k ≠ .reg barS := by decide

def barEmb : Dev nD ↪ GSem nD τ sig := ⟨barCell, fun _ _ h => congrArg (fun g : GSem nD τ sig => g.1.1) h⟩
def dmaEmb : Dev nD × Fin 4 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells live from the launch; the copies' cells open inside the kernel. -/
abbrev barCells : Finset (GSem nD τ sig) := Finset.univ.map barEmb
abbrev dmaCells : Finset (GSem nD τ sig) := Finset.univ.map dmaEmb
/-- One duty token for each. -/
def tokens : Finset (GSem nD τ sig × ℕ × Unit) :=
  (barCells ∪ dmaCells).map ⟨fun g => (g, 0, ()), fun _ _ h => congrArg Prod.fst h⟩

theorem cells_disjoint : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ dmaCells : Finset (GSem nD τ sig)) :=
  Finset.mem_union_left _ (Finset.mem_map_of_mem barEmb (Finset.mem_univ c))
theorem dma_mem (c : Dev nD) (k : Fin 4) : ((c : Thread nD τ), osem k) ∈ (barCells ∪ dmaCells : Finset (GSem nD τ sig)) :=
  Finset.mem_union_right _ (Finset.mem_map_of_mem dmaEmb (Finset.mem_univ (c, k)))

/-- One thing for each barrier cell is one for each device. -/
theorem over_bar (Ψ : GSem nD τ sig → sProp 𝕄) : bigSep barCells Ψ = bigSep Finset.univ fun c => Ψ (barCell c) := bigSep_map barEmb

theorem over_four (Ψ : Fin 4 → sProp 𝕄) : bigSep Finset.univ Ψ = iprop(Ψ 0 ∗ Ψ 1 ∗ Ψ 2 ∗ Ψ 3) := by
  rw [bigSep_eq_bigSepL_of_eq [0, 1, 2, 3] (by decide) (by decide)]
  rfl

/-- One thing for each copy's cell is four for each device. -/
theorem over_dma (Ψ : GSem nD τ sig → sProp 𝕄) :
    bigSep dmaCells Ψ = bigSep Finset.univ fun c : Dev nD => iprop(Ψ (sendCell 0 c) ∗ Ψ (sendCell 1 c) ∗ Ψ (recvCell 0 c) ∗ Ψ (recvCell 1 c)) := by
  rw [bigSep_map, bigSep_univ_prod]
  exact bigSep_congr fun c _ => over_four (fun k : Fin 4 => Ψ ((c : Thread nD τ), osem k))

theorem own_sems (c : Dev nD) : (Pipeline.ownSems0 osem c : sProp 𝕄)
    = iprop(semVal (sendCell 0 c) 0 ∗ semVal (sendCell 1 c) 0 ∗ semVal (recvCell 0 c) 0 ∗ semVal (recvCell 1 c) 0) :=
  over_four (fun k : Fin 4 => (semVal ((c : Thread nD τ), osem k) 0 : sProp 𝕄))

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The ghost state, dealt -/

/-- What every device may read: all the invariants, and that each barrier cell is in round 0. -/
def records (κ : GSem nD τ sig → ℕ) : sProp 𝕄 :=
  iprop((bigSep (barCells ∪ dmaCells) fun g => cellInv ER (rd m) (κ g) g) ∗ bigSep barCells fun g => reached ER g 0)

instance records_persistent (κ : GSem nD τ sig → ℕ) : BI.Persistent (records m κ) := by unfold records; infer_instance

/-- What one device gets alone: its barrier position, the right to open each of its copies' cells, the tokens it pays with. -/
def share (c : Dev nD) : sProp 𝕄 :=
  iprop(atPos ER (barCell c) 0 ∅ 0
    ∗ (openTok ER (sendCell 0 c) ∗ openTok ER (sendCell 1 c) ∗ openTok ER (recvCell 0 c) ∗ openTok ER (recvCell 1 c)) ∗ payToks c)

theorem ghost_intro (κ : GSem nD τ sig → ℕ) (c : Dev nD) : iprop(records m κ ∗ share c) ⊢ iprop(∃ K, ghost m K c) := by
  have inv (g : GSem nD τ sig) (hg : g ∈ (barCells ∪ dmaCells : Finset (GSem nD τ sig))) :
      (bigSep (barCells ∪ dmaCells) fun g => (cellInv ER (rd m) (κ g) g : sProp 𝕄)) ⊢ cellInv ER (rd m) (κ g) g := bigSep_elim hg
  have hrb : (bigSep barCells fun g => (reached ER g 0 : sProp 𝕄)) ⊢ reached ER (barCell (peer c)) 0 :=
    bigSep_elim (Finset.mem_map_of_mem barEmb (Finset.mem_univ (peer c)))
  unfold records share ghost invs
  iintro ⟨⟨#HI, #HR⟩, Hat, ⟨H0, H1, H2, H3⟩, Ht⟩
  iexists κ
  isplitr
  · isplitr; · iapply (inv _ (bar_mem c)); iexact HI
    isplitr; · iapply (inv _ (dma_mem c 0)); iexact HI
    isplitr; · iapply (inv _ (dma_mem c 1)); iexact HI
    isplitr; · iapply (inv _ (dma_mem c 2)); iexact HI
    isplitr; · iapply (inv _ (dma_mem c 3)); iexact HI
    isplitr; · iapply (inv _ (bar_mem (peer c))); iexact HI
    isplitr; · iapply (inv _ (dma_mem (peer c) 2)); iexact HI
    iapply (inv _ (dma_mem (peer c) 3)); iexact HI
  isplitl [Hat]; · iexact Hat
  isplitl [H0]; · iexact H0
  isplitl [H1]; · iexact H1
  isplitl [H2]; · iexact H2
  isplitl [H3]; · iexact H3
  isplitr; · iapply hrb; iexact HR
  iexact Ht

/-- One thing for each device's partner is one for each device. -/
theorem over_partners (Ψ : Dev nD → sProp 𝕄) : (bigSep Finset.univ fun c : Dev nD => Ψ (peer c)) = bigSep Finset.univ Ψ := (bigSep_univ_equiv swap Ψ).symm

/-- Each cell's token, dealt to the device that pays it: the barrier's and the receives' to the partner. -/
theorem tokens_dealt :
    bigSep tokens (fun x => (dutyTok ER x.1 x.2.1 x.2.2 : sProp 𝕄)) ⊢ bigSep Finset.univ fun c : Dev nD => payToks c := by
  have e : bigSep tokens (fun x => (dutyTok ER x.1 x.2.1 x.2.2 : sProp 𝕄)) = iprop((bigSep Finset.univ fun c : Dev nD => dutyTok ER (barCell c) 0 ())
      ∗ bigSep Finset.univ fun c : Dev nD => iprop(dutyTok ER (sendCell 0 c) 0 () ∗ dutyTok ER (sendCell 1 c) 0 ()
        ∗ dutyTok ER (recvCell 0 c) 0 () ∗ dutyTok ER (recvCell 1 c) 0 ())) :=
    (bigSep_map (Φ := fun x : GSem nD τ sig × ℕ × Unit => (dutyTok ER x.1 x.2.1 x.2.2 : sProp 𝕄)) _).trans ((bigSep_union cells_disjoint).trans
      (congrArg₂ _ (over_bar fun g => (dutyTok ER g 0 () : sProp 𝕄)) (over_dma fun g => (dutyTok ER g 0 () : sProp 𝕄))))
  rw [e]
  unfold payToks
  simp only [bigSep_sep']
  rw [over_partners fun c : Dev nD => (dutyTok ER (barCell c) 0 () : sProp 𝕄), over_partners fun c : Dev nD => (dutyTok ER (recvCell 0 c) 0 () : sProp 𝕄),
    over_partners fun c : Dev nD => (dutyTok ER (recvCell 1 c) 0 () : sProp 𝕄)]
  iintro ⟨Hb, Hs0, Hs1, Hr0, Hr1⟩
  isplitl [Hb]; · iexact Hb
  isplitl [Hr0]; · iexact Hr0
  isplitl [Hr1]; · iexact Hr1
  isplitl [Hs0]; · iexact Hs0
  iexact Hs1

/-! ## The launch credit -/

/-- What device `d` owes one cell of its partner's, read at a cell of device `c`. -/
theorem owed_peer (d c : Dev nD) (s s' : SemLoc sig) (n : ℕ) :
    (tallyAt ((peer d : Thread nD τ), s') () n : CellTallies nD τ sig Unit) ((c : Thread nD τ), s) () = if d = peer c ∧ s = s' then n else 0 := by
  rw [tallyAt_apply]
  refine if_congr ⟨fun h => ?_, fun h => ?_⟩ rfl rfl
  · have h1 : c = peer d := congrArg (fun g : GSem nD τ sig => g.1.1) h.1
    exact ⟨by rw [h1, peer_peer], congrArg Prod.snd h.1⟩
  · obtain ⟨rfl, rfl⟩ := h
    exact ⟨by rw [peer_peer], rfl⟩

theorem owed_bar (d c : Dev nD) : O₀ d (barCell c) () = if d = peer c then 1 else 0 := by
  unfold O₀ O₂
  simp only [Pi.add_apply, Finsupp.add_apply]
  rw [owed_peer, owed_peer, owed_peer, if_neg (fun h => by cases h.2), if_neg (fun h => by cases h.2), zero_add, zero_add]
  exact if_congr ⟨fun h => h.1, fun h => ⟨h, rfl⟩⟩ rfl rfl

theorem owed_recv (k : Fin 2) (d c : Dev nD) : O₀ d (recvCell k c) () = if d = peer c then N else 0 := by
  unfold O₀ O₂
  simp only [Pi.add_apply, Finsupp.add_apply]
  rw [owed_peer, owed_peer, owed_peer, if_neg (c := d = peer c ∧ SemLoc.dma (rSem k) = .reg barS) (fun h => by cases h.2), add_zero]
  match k with
  | 0 =>
    rw [if_neg (fun h => absurd h.2 (by decide)), zero_add]
    exact if_congr ⟨fun h => h.1, fun h => ⟨h, rfl⟩⟩ rfl rfl
  | 1 =>
    rw [if_neg (c := d = peer c ∧ SemLoc.dma (rSem 1) = .dma (rSem 0)) (fun h => absurd h.2 (by decide)), add_zero]
    exact if_congr ⟨fun h => h.1, fun h => ⟨h, rfl⟩⟩ rfl rfl

/-- A cell that only its owner's partner owes: the launch credits its owner with that much. -/
theorem launch_at (g : GSem nD τ sig) (c : Dev nD) (n : ℕ) (h : ∀ d, O₀ d g () = if d = peer c then n else 0) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

theorem creds_intro (c : Dev nD) : (Pipeline.launchCred O₀ c : sProp 𝕄) ⊢ creds c := by
  unfold Pipeline.launchCred creds
  rw [bigSep_univ_at _ (SemLoc.reg barS), bigSep_erase (Finset.mem_erase.mpr ⟨(fun h => by cases h), Finset.mem_univ (SemLoc.dma (rSem 0))⟩),
    launch_at (barCell c) c 1 fun d => owed_bar d c, launch_at (recvCell 0 c) c N fun d => owed_recv 0 d c,
    ← launch_at (recvCell 1 c) c N fun d => owed_recv 1 d c]
  refine sep_mono_right (sep_mono_right ?_)
  exact bigSep_elim (Finset.mem_erase.mpr ⟨by decide, Finset.mem_erase.mpr ⟨(fun h => by cases h), Finset.mem_univ _⟩⟩)

end Cert.RmsNorm

end
-- ==== Proof.Segments.lean ====
/-
The run: the reshape, then the kernel's call, from any memory with every counter at zero.
-/
module

public import proofs.«01_k».proof.Proof.Dealing

@[expose] public section

noncomputable section

namespace Cert.RmsNorm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The memory at each boundary -/

/-- The one set of contents the call's admission accepts. -/
abbrev adm : (p : Fin 1) → (pcfgs (F := F) p).Adm := fun p => (cfgs p).toPCfg_adm
abbrev pdats : (p : Fin 1) → (c : Dev nD) → Dat τ (Elt F) Unit ℕ UU ℕ (Pipeline.pin (pcfgs (F := F)) adm p) c := fun | 0 => dat m

/-- A device's buffers that outlive a call. -/
abbrev kept : Finset (DevRef τ sig) := Pipeline.ucRefs τ sig
/-- Those that no window of the call names. -/
abbrev others : Finset (DevRef τ sig) := kept \ Pipeline.arrRefs (τ := τ) spec0

/-- A device's buffers at launch, when the call is entered, and when it is left. -/
abbrev V₀ (c : Dev nD) : Valuation τ sig (Elt F) := fun b => m (c, b)
abbrev V₁ (c : Dev nD) : Valuation τ sig (Elt F) := StableHlo.after hostOps0 (V₀ m c)
def V₂ (c : Dev nD) : Valuation τ sig (Elt F) := Function.update (V₁ m c) (Proc.devRef .tc main_v2) ((dat m c).arrAt (2 : Fin 3) cfg0.N)

theorem V₂_ne (c : Dev nD) (b : Ref sig .tc) (h : b ≠ main_v2) : V₂ m c b = V m c b :=
  Function.update_of_ne (StableHlo.devRef_ne_of_ne h) _ _
theorem V₂_result (c : Dev nD) : V₂ m c main_v2 = (dat m c).arrAt (2 : Fin 3) cfg0.N := Function.update_self _ _ _

/-- The result's array ends as the body left its staging buffer. -/
theorem result_end (c : Dev nD) : (dat m c).arrAt (2 : Fin 3) cfg0.N = outAt m c := by
  have h : (win0_2.blk t0_0).view.read (Elt F) ((dat m c).arrAt (2 : Fin 3) cfg0.N) = outAt m c := by
    rw [show cfg0.N = (t0_0 : Fin 1).val + 1 from rfl, (dat m c).arrAt_succ (2 : Fin 3) t0_0]
    rw [flush0_2 t0_0, if_pos rfl]
    exact View.read_write_univ _ _
  rw [← h]
  exact (Memref.read_access_unit_zero (Elt F) main_v2 (funext fun a => by fin_cases a <;> decide) (fun a => by fin_cases a <;> decide) _).symm

/-- The kernel reads the whole of `x` and the whole of the reshaped `gamma`. -/
theorem xin_eq (c : Dev nD) : xin m c = V m c main_arg0 :=
  Memref.read_access_unit_zero (Elt F) main_arg0 (funext fun a => by fin_cases a <;> decide) (fun a => by fin_cases a <;> decide) _
theorem gin_eq (c : Dev nD) : gin m c = V m c main_v1 :=
  Memref.read_access_unit_zero (Elt F) main_v1 (funext fun a => by fin_cases a <;> decide) (fun a => by fin_cases a <;> decide) _

/-! ## The two segments -/

/-- What rides through the reshape. -/
abbrev riding (c : Dev nD) : sProp 𝕄 := iprop(start m c ∗ ∃ W, owes (c : Thread nD τ) (O₀ c) W)

def host : Pipeline.HostSeg (Name := ℕ) (U := UU) (Lvl := ℕ) (pcfgs (F := F)) defs₀ 𝒱₀ L lv :=
  Pipeline.HostSeg.ofOps _ _ _ _ _ kept hostOps0 (fun op h => Pipeline.sub_ucRefs op (List.forall_iff_forall_mem.mp hostOps0_sub op h))
    (List.forall_iff_forall_mem.mp hostOps0_fresh) (V₀ m) (riding m)

def Tk (c : Dev nD) : sProp 𝕄 := iprop((∃ K, ghost m K c) ∗ creds c)
def Xk (c : Dev nD) : sProp 𝕄 := iprop((∃ K, opened m K c) ∗ creds c ∗ levAts L lv)
def Yk (c : Dev nD) : sProp 𝕄 := semVal (barCell c) 0

/-- A scoped cell opens with its counter at zero. -/
theorem open_cell (κ : ℕ) (g : GSem nD τ sig) : iprop(cellInv ER (rd m) κ g ∗ openTok ER g ∗ semVal g 0)
    ⊢ (|={Set.univ}=> iprop(atPos ER g 0 ∅ 0 ∗ reached ER g 0) : sProp 𝕄) := by
  iintro ⟨#HI, Ho, Hv⟩
  imod (Rounds.cell_open ER (rd m) (g := g) (Set.mem_univ κ)) $$ [Ho Hv] with ⟨Hat, #Hr⟩
  · isplitr; · iexact HI
    isplitl [Ho] <;> iassumption
  imodintro
  isplitl [Hat]; · iexact Hat
  iexact Hr

theorem open_all (c : Dev nD) : iprop(Tk m c ∗ Pipeline.ownSems0 osem c ∗ levAts L lv) ⊢ (|={Set.univ}=> Xk m c : sProp 𝕄) := by
  rw [own_sems]
  unfold Tk Xk
  iintro ⟨⟨⟨%K, Hg⟩, Hc⟩, ⟨Hs0, Hs1, Hr0, Hr1⟩, #Hlev⟩
  unfold ghost
  icases Hg with ⟨#HI, Hat, Ho0, Ho1, Ho2, Ho3, #Hr, Ht⟩
  ihave HIs := (show invs m K c ⊢ iprop(cellInv ER (rd m) (K (sendCell 0 c)) (sendCell 0 c) ∗ cellInv ER (rd m) (K (sendCell 1 c)) (sendCell 1 c)
      ∗ cellInv ER (rd m) (K (recvCell 0 c)) (recvCell 0 c) ∗ cellInv ER (rd m) (K (recvCell 1 c)) (recvCell 1 c)) by
    unfold invs
    iintro ⟨-, H0, H1, H2, H3, -⟩
    isplitl [H0]; · iexact H0
    isplitl [H1]; · iexact H1
    isplitl [H2] <;> iassumption) $$ HI
  icases HIs with ⟨#H0, #H1, #H2, #H3⟩
  imod (open_cell m (K (sendCell 0 c)) (sendCell 0 c)) $$ [Ho0 Hs0] with HS0
  · isplitr; · iexact H0
    isplitl [Ho0] <;> iassumption
  imod (open_cell m (K (sendCell 1 c)) (sendCell 1 c)) $$ [Ho1 Hs1] with HS1
  · isplitr; · iexact H1
    isplitl [Ho1] <;> iassumption
  imod (open_cell m (K (recvCell 0 c)) (recvCell 0 c)) $$ [Ho2 Hr0] with HR0
  · isplitr; · iexact H2
    isplitl [Ho2] <;> iassumption
  imod (open_cell m (K (recvCell 1 c)) (recvCell 1 c)) $$ [Ho3 Hr1] with HR1
  · isplitr; · iexact H3
    isplitl [Ho3] <;> iassumption
  imodintro
  isplitl [Hat HS0 HS1 HR0 HR1 Ht]
  · iexists K; unfold opened
    isplitr; · iexact HI
    isplitl [Hat]; · iexact Hat
    isplitl [HS0]; · iexact HS0
    isplitl [HS1]; · iexact HS1
    isplitl [HR0]; · iexact HR0
    isplitl [HR1]; · iexact HR1
    isplitr; · iexact Hr
    iexact Ht
  isplitl [Hc]; · iexact Hc
  iexact Hlev

theorem held_none (c : Dev nD) (W : Valuation τ sig (Elt F)) : (StableHlo.held (c.tc : Thread nD τ) ∅ W : sProp 𝕄) = BI.emp := by
  unfold StableHlo.held; exact BI.bigSep_empty

theorem enter (c : Dev nD) : iprop(Pipeline.scopedRest (Pipeline.pin (pcfgs (F := F)) adm 0).spec c ∗ (∃ r, prngReg c r)
    ∗ StableHlo.held (c.tc : Thread nD τ) ∅ (V₁ m c) ∗ Xk m c) ⊢ (pdats m 0 c).Φ 0 := by
  show _ ⊢ Φ₀ m c
  unfold Φ₀ Xk
  iintro ⟨Hs, Hp, -, HK, Hc, Hlev⟩
  ihave Hs := (scratch_split (F := F) c) $$ Hs
  icases Hs with ⟨Hs, Hrest⟩
  isplitl [HK]; · iexact HK
  isplitl [Hc]; · iexact Hc
  isplitl [Hlev]; · iexact Hlev
  isplitl [Hs]; · iexact Hs
  isplitl [Hrest]; · iexact Hrest
  iexact Hp

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  show Φ₁ c ⊢ _
  rw [own_sems, held_none]
  unfold Φ₁ Yk
  iintro ⟨Hb, Hz, Hs, Hrest, Hp⟩
  isplitl [Hs Hrest]
  · iapply (scratch_join (F := F) c)
    isplitl [Hs] <;> iassumption
  isplitl [Hp]; · iexact Hp
  isplitr; · iempintro
  isplitl [Hz]; · iexact Hz
  iexact Hb

/-- What a device owes during the call lies above the staging buffers' waits. -/
theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := by
    obtain ⟨n, hn⟩ := t
    cases n <;> rfl
  rw [e] at h
  split at h
  · rcases O₀_pos h with ⟨k, rfl⟩ | rfl
    · exact ⟨by rw [L_tc]; exact Finset.mem_singleton_self _, by rw [lv_recv]; decide⟩
    · exact ⟨by rw [L_tc]; exact Finset.mem_singleton_self _, by rw [lv_bar]; decide⟩
  · exact absurd h (Nat.lt_irrefl 0)

theorem staging_level : ∀ (c : Dev nD) (w : Fin (Pipeline.pin (pcfgs (F := F)) adm 0).W) (s : Fin ((Pipeline.pin (pcfgs (F := F)) adm 0).win w).nbuf),
    lv ((c : Thread nD τ), .dma (((Pipeline.pin (pcfgs (F := F)) adm 0).win w).sem s)) () ≤ 0 := fun c w s => by
  have h : ∀ (w : Fin 3) (s : Fin (cfg0.win w).nbuf), ¬ ∃ k, (SemLoc.dma ((cfg0.win w).sem s) : SemLoc sig) = .dma (rSem k) := by
    intro w; fin_cases w <;> decide
  dsimp only [lv]
  rw [if_neg (fun h => by cases h)]
  exact le_of_eq (if_neg (h w s))

theorem arrays_end (c : Dev nD) : ∀ w : Fin 3, (dat m c).arrAt w cfg0.N = V₂ m c (Proc.devRef .tc (Pipeline.arrRef spec0 w))
  | 0 => ((dat m c).arrAt_in (0 : Fin 3) rfl _).trans (V₂_ne m c main_arg0 (by decide)).symm
  | 1 => ((dat m c).arrAt_in (1 : Fin 3) rfl _).trans (V₂_ne m c main_v1 (by decide)).symm
  | 2 => (V₂_result m c).symm

set_option backward.isDefEq.respectTransparency.types false in
def call : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) launch0.toP rfl (fun c => (body_obligation m c).loose)
    (fun _ => 0) O₀ (fun c => (show (dat m c).owed 0 = O₀ c from rfl).trans (zero_add _).symm) (fun _ => rfl) (fun _ => rfl) (share_eq m)
    (V₁ m) (V₂ m) (fun c b hb => Function.update_of_ne (fun h => by
      subst h; exact (Finset.mem_sdiff.mp (Finset.mem_sdiff.mp hb).1).2 (by decide)) _ _)
    (Tk m) Yk (Xk m) Yk (open_all m) (enter m) (leave m) (fun c => by iintro H; imodintro; iexact H)
    (fun _ => 0) ⟨fun c w s => by rw [L_tc]; exact Finset.mem_singleton_self _, staging_level, owed_above m⟩
    (fun _ => iprop(emp)) (fun _ _ => rfl) (arrays_end m)

theorem held_kept (c : Dev nD) (W : Valuation τ sig (Elt F)) : (StableHlo.held (c.tc : Thread nD τ) kept W : sProp 𝕄)
    = iprop(StableHlo.held (c.tc : Thread nD τ) (Pipeline.arrRefs (τ := τ) spec0) W ∗ StableHlo.held (c.tc : Thread nD τ) others W) :=
  StableHlo.held_sub_split (c.tc : Thread nD τ) (by decide) W

theorem call_pre (c : Dev nD) : iprop(StableHlo.held (c : Thread nD τ) kept (V₁ m c) ∗ riding m c) ⊢ (call m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ Tk m c ∗ ∃ Wd, owes (c : Thread nD τ) (0 + O₀ c) Wd)
  rw [held_kept, zero_add]
  unfold riding start Tk
  iintro ⟨⟨Ha, Hh⟩, ⟨HK, Hc, Hp⟩, HO⟩
  isplitl [Ha]; · iexact Ha
  isplitl [Hp]; · iexact Hp
  isplitl [Hh]
  · isplitl [Hh]; · iexact Hh
    iempintro
  isplitl [HK Hc]
  · isplitl [HK] <;> iassumption
  iexact HO

/-- What a device holds at the end. -/
abbrev Tₙ (c : Dev nD) : sProp 𝕄 := iprop(StableHlo.held (c : Thread nD τ) kept (V₂ m c) ∗ semVal (barCell c) 0)

theorem call_post (c : Dev nD) : (call m).post c ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  unfold Tₙ Yk
  rw [held_kept]
  iintro ⟨Ha, -, ⟨Hh, -⟩, Hb, HO⟩
  isplitr [HO]
  · isplitl [Ha Hh]
    · isplitl [Ha] <;> iassumption
    · iexact Hb
  iexact HO

def segs : List (Pipeline.Seg (pcfgs (F := F)) adm (pdats m) () defs₀ 𝒱₀ L lv) := [.host (host m), .region (call m)]

end Cert.RmsNorm

end
-- ==== Proof.Run.lean ====
/-
The launch and the run of the whole program, over any float values.
-/
module

public import proofs.«01_k».proof.Proof.Segments

@[expose] public section

noncomputable section

namespace Cert.RmsNorm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cells_inj : Function.Injective (Pipeline.cellOf (nD := nD) (τ := τ) (Pipeline.pin (pcfgs (F := F)) adm)) := launch0.toP.cellOf_inj adm

/-- The launch's ghost element: the pipeline's part and the exchange's. -/
def u₀ : UU :=
  (initOf (Pipeline.cells (Pipeline.pin (pcfgs (F := F)) adm) cells_inj) (Pipeline.launchToks (Pipeline.pin (pcfgs (F := F)) adm) cells_inj),
    launchOf barCells dmaCells tokens)

/-- A resource put wholly on device 0, until the launch deals it. -/
def onFirst (X : sProp 𝕄) (c : Dev nD) : sProp 𝕄 := if c = 0 then X else iprop(emp)
theorem all_onFirst (X : sProp 𝕄) : bigSep Finset.univ (onFirst X) = X := by
  rw [bigSep_univ_at _ 0, bigSep_congr (s := Finset.univ.erase 0) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp 𝕄 := onFirst (BI.own (ER (launchOf barCells dmaCells tokens)))

/-- What a device holds before the reshape. -/
abbrev T₀ (c : Dev nD) : sProp 𝕄 := iprop(StableHlo.held (c : Thread nD τ) kept (V₀ m c) ∗ riding m c)

/-- Its part that is not the exchange's ghost state. -/
def plain (c : Dev nD) : sProp 𝕄 :=
  iprop(StableHlo.held (c : Thread nD τ) kept (V₀ m c) ∗ creds c ∗ owes (c : Thread nD τ) (O₀ c) ∅ ∗ ∃ r, prngReg c r)

theorem T₀_intro (κ : GSem nD τ sig → ℕ) (c : Dev nD) : iprop(records m κ ∗ (share c ∗ plain m c)) ⊢ T₀ m c := by
  unfold plain T₀ riding start
  iintro ⟨#HR, Hl, Hh, Hc, HO, Hp⟩
  isplitl [Hh]; · iexact Hh
  isplitr [HO]
  · isplitl [Hl]
    · iapply (ghost_intro m κ c)
      isplitr; · iexact HR
      iexact Hl
    isplitl [Hc] <;> iassumption
  · iexists ∅; iexact HO

/-- What the launch hands one device. -/
abbrev given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem given_split (c : Dev nD) : given m ρ c ⊢ (iprop(plain m c ∗ (semVal (barCell c) 0 ∗ G c)) : sProp 𝕄) := by
  unfold given
  rw [show unscopedBufs c (fun b => m ((c : Thread nD τ).loc b)) = StableHlo.held (c : Thread nD τ) kept (V₀ m c) from Pipeline.unscopedBufs_held c (V₀ m c),
    unscoped_sems]
  unfold plain
  iintro ⟨Hh, Hus, HO, Hcr, Hp, HG⟩
  ihave Hc := (creds_intro (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- Two things for each device are one pair for each device, and back. -/
theorem zip (Φ Ψ : Dev nD → sProp 𝕄) : iprop(bigSep Finset.univ Φ ∗ bigSep Finset.univ Ψ) ⊢ bigSep Finset.univ fun c => iprop(Φ c ∗ Ψ c) :=
  Entails.of_eq (bigSep_sep _ _ _).symm
theorem unzip (Φ Ψ : Dev nD → sProp 𝕄) : (bigSep Finset.univ fun c => iprop(Φ c ∗ Ψ c)) ⊢ iprop(bigSep Finset.univ Φ ∗ bigSep Finset.univ Ψ) :=
  Entails.of_eq (bigSep_sep _ _ _)

/-- The launch's one step: the invariants made, everything dealt. -/
theorem init : iprop((bigSep Finset.univ fun c : Dev nD => given m ρ c) ∗ levAts L lv) ⊢ (|={Set.univ}=> bigSep Finset.univ (T₀ m) : sProp 𝕄) := by
  iintro ⟨H, -⟩
  ihave H' := (show (bigSep Finset.univ fun c : Dev nD => given m ρ c)
      ⊢ (bigSep Finset.univ fun c : Dev nD => iprop(plain m c ∗ (semVal (barCell c) 0 ∗ G c)) : sProp 𝕄) from bigSep_mono fun c _ => given_split m ρ c) $$ H
  ihave H2 := (unzip (plain m) fun c : Dev nD => iprop(semVal (barCell c) 0 ∗ G c)) $$ H'; icases H2 with ⟨HB, H3⟩
  ihave H4 := (unzip (fun c : Dev nD => (semVal (barCell c) 0 : sProp 𝕄)) G) $$ H3; icases H4 with ⟨Hv, HG⟩
  ihave Hu := (show bigSep Finset.univ (G (F := F)) ⊢ BI.own (ER (launchOf barCells dmaCells tokens)) from Entails.of_eq (all_onFirst _)) $$ HG
  imod (Rounds.fund_launch ER (rd m) cells_disjoint (fun g _ h => h) tokens) $$ [Hv Hu] with ⟨%κ, -, #Hinv, #Hr, Hat, Hopen, Htok⟩
  · isplitl [Hv]
    · iapply (Entails.of_eq (over_bar (F := F) fun g => semVal g 0).symm) $$ Hv
    · iexact Hu
  imodintro
  iapply (bigSep_with_persistent (R := records m κ) (Φ := fun c => iprop(share c ∗ plain m c)) fun c _ => T₀_intro m κ c)
  isplitr
  · unfold records
    isplitr; · iexact Hinv
    iexact Hr
  iapply (zip _ _)
  isplitr [HB]
  · unfold share
    iapply (zip _ _); isplitl [Hat]; · iapply (Entails.of_eq (over_bar (F := F) fun g => atPos ER g 0 ∅ 0)) $$ Hat
    iapply (zip _ _); isplitl [Hopen]; · iapply (Entails.of_eq (over_dma (F := F) fun g => openTok ER g)) $$ Hopen
    iapply (tokens_dealt (F := F)); iexact Htok
  · iexact HB

theorem unscoped_eq : ∀ sm : SemLoc sig, sm.isScoped .tc = false → sm = .reg barS := by decide

/-- The two arguments' buffers and the result's, out of all that a device holds. -/
theorem held_three (c : Dev nD) (W : Valuation τ sig (Elt F)) : (StableHlo.held (c.tc : Thread nD τ) kept W : sProp 𝕄)
    ⊢ iprop((((c : Thread nD τ).loc main_arg0) ↦{fullShare} W main_arg0) ∗ (((c : Thread nD τ).loc main_arg1) ↦{fullShare} W main_arg1)
      ∗ (((c : Thread nD τ).loc main_v2) ↦{fullShare} W main_v2)) := by
  have e : (StableHlo.held (c.tc : Thread nD τ) {Proc.devRef .tc main_arg0, Proc.devRef .tc main_arg1, Proc.devRef .tc main_v2} W : sProp 𝕄)
      = iprop((((c : Thread nD τ).loc main_arg0) ↦{fullShare} W main_arg0) ∗ (((c : Thread nD τ).loc main_arg1) ↦{fullShare} W main_arg1)
      ∗ (((c : Thread nD τ).loc main_v2) ↦{fullShare} W main_v2)) := by
    unfold StableHlo.held
    rw [bigSep_insert (by decide), bigSep_insert (by decide), BI.bigSep_singleton]
    rfl
  rw [StableHlo.held_sub_split (c.tc : Thread nD τ) (T := {Proc.devRef .tc main_arg0, Proc.devRef .tc main_arg1, Proc.devRef .tc main_v2}) (by decide) W, e]
  iintro ⟨H, -⟩
  iexact H

set_option backward.isDefEq.respectTransparency.types false in
/-- From any memory with every counter at zero, every weakly fair execution ends, and then each device's result buffer holds
    what `outAt` says, its arguments' buffers are as they were, and every counter is zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outAt m c) ∧ r.2.sem = fun _ => 0) :=
  Pipeline.θ_run_regions_kit_sems (pcfgs (F := F)) adm (pdats m) () cells_inj EP defs₀ 𝒱₀ L lv m ρ main (segs m)
    (fun c Q => by rw [main_segs adm (pdats m) () 𝒱₀ L lv (host m) (call m) rfl c]; rfl)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [all_onFirst]; iexact HX)
    (T₀ := T₀ m) (Tₙ := Tₙ m)
    (hch := ⟨fun c => .rfl, fun c => call_pre m c, fun c => call_post m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_v2) = V₂ m c main_v2) ∧ s.sem (barCell c) = 0)
    (hfin := fun c s' => by
      dsimp only [Tₙ]
      iintro ⟨⟨Hh, Hb⟩, HSI⟩
      ihave H := (held_three c (V₂ m c)) $$ Hh
      icases H with ⟨Hx, Hg, Ho⟩
      icombine HSI Hx gives %hx
      icombine HSI Hg gives %hg
      icombine HSI Ho gives %ho
      icombine HSI Hb gives %hb
      imodintro
      isplitr
      · ipureintro
        exact ⟨⟨Buf.eq_of_forall_mem_univ hx, Buf.eq_of_forall_mem_univ hg, Buf.eq_of_forall_mem_univ ho⟩, by simpa using hb⟩
      iexact HSI)
    (hQ := fun s h hs => ⟨fun c => by
        obtain ⟨⟨hx, hg, ho⟩, -⟩ := h c
        rw [V₂_ne m c _ (by decide), V_main_arg0] at hx
        rw [V₂_ne m c _ (by decide), V_main_arg1] at hg
        rw [V₂_result, result_end] at ho
        exact ⟨hx, hg, ho⟩,
      sem_eq_zero hs fun c sm hsm => by
        obtain rfl := unscoped_eq sm hsm
        exact (h c).2⟩)

end Cert.RmsNorm

end
-- ==== Proof.Entry.lean ====
/-
One element of each program's result, over the extended reals: the kernel's on each device, the reference's on its one.
-/
module

public import proofs.«01_k».proof.Proof.Run
public import proofs.«01_k».proof.Proof.Gen.ReferenceIdeal.Run
public import Idealize.ShloMosaic.Lib.Pointwise
public import Idealize.ShloMosaic.Lib.Quiescent
public import Idealize.ShloMosaic.PureOps.Ideal.Laws

@[expose] public section

noncomputable section

namespace Cert.RmsNorm

open Idealize.ShloMosaic
open Idealize.ShloMosaic.TcCoe
open Idealize.ShloMosaic.Pointwise
open Idealize.SL.Sem

/-- The two constants: what the sum is divided by, and what is added to the mean. -/
abbrev count : EReal := Ideal.ofBits .f32 0x44800000#32
abbrev eps : EReal := Ideal.ofBits .f32 0x3727C5AC#32

namespace Device

open Cert.KernelIdeal Cert.KernelIdeal.Gen

variable (m : (ℓ : Loc nD τ sig) → Buf (Elt Ideal) ℓ)

/-- The sum of the squares of row `r` of device `c`'s block. -/
def rowSq (c : Dev nD) (r : Fin 768) : EReal := ∑ j : Fin 512, xin m c (ix2 r j) * xin m c (ix2 r j)

/-- A chunk's packed sums: place `(a, b)` holds the sum of the squares of row `128 a + b`. -/
theorem sums_at (x : Vec Ideal S384x512 .f32) (a : Fin 3) (b : Fin 128) :
    k0_pay2 (F := Ideal) x (ix2 a b) = ∑ j : Fin 512, x (ix2 ⟨a.val * 128 + b.val, by omega⟩ j) * x (ix2 ⟨a.val * 128 + b.val, by omega⟩ j) := by
  pointwise [k0_pay2]

/-- A chunk's result: `gamma` times `x`, times the reciprocal root of the mean that the two packed sums `s` and `t` give. -/
theorem scaled_at (s t : Vec Ideal S3x128 .f32) (x : Vec Ideal S384x512 .f32) (g : Vec Ideal S1x512 .f32) (r : Fin 384) (j : Fin 512) :
    k0_pay1 (F := Ideal) s t x g (ix2 r j) = g (ix2 0 j) * x (ix2 r j) * Ideal.rsqrt
      (Ideal.div (s (ix2 ⟨r.val / 128, by omega⟩ ⟨r.val % 128, by omega⟩) + t (ix2 ⟨r.val / 128, by omega⟩ ⟨r.val % 128, by omega⟩)) count + eps) := by
  pointwise [k0_pay1]

/-- Row `r` of chunk `k` is row `384 k + r` of the block. -/
theorem rectX_emb (k : Fin 2) (r : Fin 384) (j : Fin 512) : (rectX k).emb (ix2 r j) = ix2 ⟨384 * k.val + r.val, by omega⟩ j := by
  funext a
  match a with
  | ⟨0, _⟩ => exact Fin.ext (by show 384 * k.val + 1 * r.val = 384 * k.val + r.val; omega)
  | ⟨1, _⟩ => exact Fin.ext (by show 0 + 1 * j.val = j.val; omega)

/-- So is its element. -/
theorem xChunk_at (k : Fin 2) (c : Dev nD) (r : Fin 384) (j : Fin 512) :
    xChunk m k c (ix2 r j) = xin m c (ix2 ⟨384 * k.val + r.val, by omega⟩ j) :=
  (show xChunk m k c (ix2 r j) = xin m c ((rectX k).emb (ix2 r j)) from rfl).trans (congrArg _ (rectX_emb k r j))

/-- The partial sum that a device sends for row `r` of chunk `k` is that row's sum of squares. -/
theorem sums_row (k : Fin 2) (c : Dev nD) (r : Fin 384) :
    sums m k c (ix2 ⟨r.val / 128, by omega⟩ ⟨r.val % 128, by omega⟩) = rowSq m c ⟨384 * k.val + r.val, by omega⟩ := by
  have h : (⟨r.val / 128 * 128 + r.val % 128, by omega⟩ : Fin 384) = r := Fin.ext (by show r.val / 128 * 128 + r.val % 128 = r.val; omega)
  unfold sums rowSq
  rw [sums_at]
  simp only [h, xChunk_at]

/-- An element of a device's result: its row scaled by the root of the two partners' sums. -/
theorem outAt_at (c : Dev nD) (r : Fin 768) (j : Fin 512) :
    outAt m c (ix2 r j) = gin m c (ix2 0 j) * xin m c (ix2 r j)
      * Ideal.rsqrt (Ideal.div (rowSq m c r + rowSq m (peer c) r) count + eps) := by
  obtain ⟨k, i, hi⟩ := chunk_cover (ix2 r j)
  obtain ⟨r', j', rfl⟩ : ∃ (r' : Fin 384) (j' : Fin 512), i = ix2 r' j' := ⟨i 0, i 1, eq_ix2 i⟩
  rw [← hi, outAt_emb]
  rw [rectX_emb] at hi
  obtain rfl : (⟨384 * k.val + r'.val, by omega⟩ : Fin 768) = r := congrFun hi 0
  obtain rfl : j' = j := congrFun hi 1
  unfold outChunk
  rw [scaled_at, sums_row, sums_row, xChunk_at, rectX_emb]

/-- The kernel's `x` is the device's argument, and its `gamma` the device's other argument as one row. -/
theorem xin_arg (c : Dev nD) : xin m c = m ((c : Thread nD τ).loc main_arg0) := (xin_eq m c).trans (V_main_arg0 m c)
theorem gin_arg (c : Dev nD) (j : Fin 512) : gin m c (ix2 0 j) = m ((c : Thread nD τ).loc main_arg1) (ix1 j) := by
  rw [gin_eq]
  have h : V m c main_v1 = shapeCast S1x512 (show Vec Ideal S512 .f32 from m ((c : Thread nD τ).loc main_arg1)) shapeCasts_S512_S1x512 := by
    show StableHlo.after hostOps0 _ _ = _
    after_results
    rfl
  rw [h]
  pointwise

end Device

namespace Whole

open Cert.ReferenceIdeal Cert.ReferenceIdeal.Gen

/-- The sum of the squares of row `r` of the whole array. -/
def rowSq (x : S1536x1024.Idx → EReal) (r : Fin 1536) : EReal := ∑ j : Fin 1024, x (ix2 r j) * x (ix2 r j)

/-- The reference's result as a function of its two arguments. -/
def result (x : Vec Ideal S1536x1024 .f32) (g : Vec Ideal S1024 .f32) : FVec Ideal S1536x1024 .f32 := fun i =>
  Ideal.div (g (ix1 (i 1)) * x i) (Ideal.sqrt (Ideal.div (rowSq x (i 0)) count + eps))

/-- The reference's chain of operations, as its run states it, is that function. -/
theorem result_eq (x : Vec Ideal S1536x1024 .f32) (g : Vec Ideal S1024 .f32) :
    Host.divf (mulf (broadcastInDim S1536x1024 ![0, 1] bcast_S1x1024_S1536x1024_0_1 (broadcastInDim S1x1024 ![1] bcast_S1024_S1x1024_1 g)) x)
      (broadcastInDim S1536x1024 ![0, 1] bcast_S1536x1_S1536x1024_0_1 (Host.sqrt (addf
        (Host.divf (broadcastInDim S1536x1 ![0] bcast_S1536_S1536x1_0
          (Host.reduceAdd (mulf x x) (constant S_ .f32 0x00000000#32) reducesTo_S1536x1024_S1536_d1 h_S_))
          (broadcastInDim S1536x1 ![] bcast_S_S1536x1 (constant S_ .f32 0x44800000#32)))
        (broadcastInDim S1536x1 ![] bcast_S_S1536x1 (constant S_ .f32 0x3727C5AC#32))))) = result x g := by
  funext i
  obtain ⟨r, j, rfl⟩ : ∃ (r : Fin 1536) (j : Fin 1024), i = ix2 r j := ⟨i 0, i 1, eq_ix2 i⟩
  show _ = Ideal.div (g (ix1 j) * x (ix2 r j)) (Ideal.sqrt (Ideal.div (∑ j : Fin 1024, x (ix2 r j) * x (ix2 r j)) count + eps))
  pointwise

/-- The reference leaves that function of its arguments in its result, its arguments as they were, and no semaphore raised. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c : Thread nD τ).loc main_v12) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun r h => ⟨fun c => ⟨(h c).1.trans (result_eq _ _), (h c).2⟩, sem_eq_zero_of_no_sems rfl r.2⟩)
    (Cert.ReferenceIdeal.Value.run m ρ)

end Whole

end Cert.RmsNorm

end
-- ==== Proof.Algebra.lean ====
/-
The arithmetic of the extended reals that the comparison rests on: the scale is positive, so its reciprocal root multiplies as its root divides.
-/
module

public import proofs.«01_k».proof.Proof.Entry

@[expose] public section

noncomputable section

namespace Cert.RmsNorm

open Idealize.ShloMosaic

/-- The divisor is the number of columns of the whole array. -/
theorem count_eq : count = ((1024 : ℝ) : EReal) := by
  simp [count, Ideal.ofBits, Ideal.ieee, -EReal.coe_mul]
  norm_num

/-- The number added to the mean is positive. -/
theorem eps_pos : 0 < eps := by
  simp [eps, Ideal.ofBits, Ideal.ieee, -EReal.coe_mul]

/-- A square is not negative, at the infinities too. -/
theorem square_nonneg (a : EReal) : 0 ≤ a * a := by
  rcases le_total 0 a with h | h
  · exact mul_nonneg h h
  · have h' : 0 ≤ -a := EReal.neg_nonneg.mpr h
    have := mul_nonneg h' h'
    rwa [neg_mul_neg] at this

/-- So a mean of squares, with the constant added, is positive. -/
theorem scale_pos {s : EReal} (h : 0 ≤ s) : 0 < Ideal.div s count + eps := by
  have hd : 0 ≤ Ideal.div s count := by
    rw [count_eq, Ideal.div_coe (by norm_num)]
    exact mul_nonneg h (by exact_mod_cast (by norm_num : (0 : ℝ) ≤ 1 / 1024))
  exact lt_of_lt_of_le eps_pos (le_add_of_nonneg_left hd)

/-- Multiplying by the reciprocal root of a positive number is dividing by its root. -/
theorem mul_rsqrt (a : EReal) {z : EReal} (h : 0 < z) : a * Ideal.rsqrt z = Ideal.div a (Ideal.sqrt z) := by
  induction z with
  | bot => exact absurd h (by simp)
  | top => simp [Ideal.div]
  | coe r =>
    have hr : 0 < r := by exact_mod_cast h
    have hs : √r ≠ 0 := (Real.sqrt_pos.mpr hr).ne'
    rw [Ideal.rsqrt_coe, Ideal.sqrt_coe, if_neg hr.not_gt, if_neg hr.ne', if_neg hr.not_gt, Ideal.div_coe hs, one_div]

end Cert.RmsNorm

end
-- ==== Proof.Equation.lean ====
/-
The kernel's result on each device is that device's block of the reference's result.
-/
module

public import proofs.«01_k».proof.Proof.Algebra

@[expose] public section

noncomputable section

namespace Cert.RmsNorm

open Idealize.ShloMosaic
open Idealize.ShloMosaic.TcCoe
open Idealize.ShloMosaic.Pointwise
open Cert.KernelIdeal Cert.KernelIdeal.Gen

/-- Where the rows and the columns of device `c`'s block lie in the whole array, and which half of the columns it has. -/
def rowOf (c : Dev nD) (r : Fin 768) : Fin 1536 := ⟨c.val / 2 * 768 + r.val, by have : c.val < 4 := c.isLt; omega⟩
def colOf (y : Fin 2) (j : Fin 512) : Fin 1024 := ⟨y.val * 512 + j.val, by omega⟩
def half (c : Dev nD) : Fin 2 := ⟨c.val % 2, by omega⟩

/-- Device `c`'s block of a whole array of `x`'s shape, an element at a time; -/
theorem block_at (c : Dev nD) (v : (⟨2, ![1536, 1024]⟩ : Shape).Idx → EReal) (r : Fin 768) (j : Fin 512) :
    (Layout.blockN ⟨2, ![768, 512]⟩ ⟨2, ![1536, 1024]⟩ (Layout.meshBlock [2, 2] ![[0], [1]] c) v : _ → _) (ix2 r j) = v (ix2 (rowOf c r) (colOf (half c) j)) := by
  rw [Layout.blockN_apply]
  congr 1
  funext a
  fin_cases c <;> fin_cases a <;> rfl

/-- and of one of `gamma`'s. -/
theorem block_row (c : Dev nD) (v : (⟨1, ![1024]⟩ : Shape).Idx → EReal) (j : Fin 512) :
    (Layout.blockN ⟨1, ![512]⟩ ⟨1, ![1024]⟩ (Layout.meshBlock [2, 2] ![[1]] c) v : _ → _) (ix1 j) = v (ix1 (colOf (half c) j)) := by
  rw [Layout.blockN_apply]
  congr 1
  funext a
  fin_cases c <;> fin_cases a <;> rfl

/-- A sum over the whole row is the sum over its left half and the sum over its right half. -/
theorem sum_halves (f : Fin 1024 → EReal) : ∑ j, f j = ∑ j, f (colOf 0 j) + ∑ j, f (colOf 1 j) := by
  rw [Fin.sum_univ_add (a := 512) (b := 512) f]
  congr 1 <;> exact Finset.sum_congr rfl fun j _ => congrArg f (Fin.ext (by simp [colOf]))

/-- Partners hold the two halves of the same rows. -/
theorem peer_rows (c : Dev nD) (r : Fin 768) : rowOf (peer c) r = rowOf c r := by fin_cases c <;> rfl
theorem halves (c : Dev nD) : half c = 0 ∧ half (peer c) = 1 ∨ half c = 1 ∧ half (peer c) = 0 := by
  fin_cases c <;> first | exact .inl ⟨rfl, rfl⟩ | exact .inr ⟨rfl, rfl⟩

variable (m : (ℓ : Loc nD τ sig) → Buf (Elt Ideal) ℓ)
  (X : Vec Ideal ReferenceIdeal.S1536x1024 .f32) (Γ : Vec Ideal ReferenceIdeal.S1024 .f32)

/-- The devices' arguments are their blocks of the whole arrays `X` and `Γ`. -/
def Blocks : Prop := ∀ c : Dev nD,
  m ((c : Thread nD τ).loc main_arg0) = Layout.blockN ⟨2, ![768, 512]⟩ ⟨2, ![1536, 1024]⟩ (Layout.meshBlock [2, 2] ![[0], [1]] c) X
  ∧ m ((c : Thread nD τ).loc main_arg1) = Layout.blockN ⟨1, ![512]⟩ ⟨1, ![1024]⟩ (Layout.meshBlock [2, 2] ![[1]] c) Γ

variable {m X Γ}

/-- So what the kernel reads of `x` and of `gamma` on device `c` are elements of the whole arrays. -/
theorem xin_block (h : Blocks m X Γ) (c : Dev nD) (r : Fin 768) (j : Fin 512) :
    xin m c (ix2 r j) = X (ix2 (rowOf c r) (colOf (half c) j)) := by
  rw [Device.xin_arg, (h c).1]; exact block_at c X r j

theorem gin_block (h : Blocks m X Γ) (c : Dev nD) (j : Fin 512) : gin m c (ix2 0 j) = Γ (ix1 (colOf (half c) j)) := by
  rw [Device.gin_arg, (h c).2]; exact block_row c Γ j

/-- The two partners' sums of squares make the whole row's. -/
theorem rowSq_add (h : Blocks m X Γ) (c : Dev nD) (r : Fin 768) :
    Device.rowSq m c r + Device.rowSq m (peer c) r = Whole.rowSq X (rowOf c r) := by
  unfold Device.rowSq Whole.rowSq
  rw [sum_halves]
  simp only [xin_block h, peer_rows]
  rcases halves c with ⟨e, e'⟩ | ⟨e, e'⟩ <;> rw [e, e']
  exact add_comm _ _

/-- A whole row's sum of squares is not negative. -/
theorem rowSq_nonneg (r : Fin 1536) : 0 ≤ Whole.rowSq X r := Finset.sum_nonneg fun _ _ => square_nonneg _

/-- What the kernel leaves on device `c` is block `c` of the reference's result. -/
theorem outAt_block (h : Blocks m X Γ) (c : Dev nD) :
    outAt m c = Layout.blockN ⟨2, ![768, 512]⟩ ⟨2, ![1536, 1024]⟩ (Layout.meshBlock [2, 2] ![[0], [1]] c) (Whole.result X Γ) := by
  funext i
  obtain ⟨r, j, rfl⟩ : ∃ (r : Fin 768) (j : Fin 512), i = ix2 r j := ⟨i 0, i 1, eq_ix2 i⟩
  rw [Device.outAt_at, rowSq_add h, xin_block h, gin_block h, mul_rsqrt _ (scale_pos (rowSq_nonneg _))]
  exact (block_at c (Whole.result X Γ) r j).symm

end Cert.RmsNorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The two printings of the kernel have the same text, so the same procedures. -/
theorem bodies_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl
  | ⟨_ + 1, h⟩ => exact absurd h (Nat.not_lt.2 (Nat.le_add_left _ _))

/-- So with the pipeline's own procedures beside them. -/
theorem defs_eq : Cert.Kernel.defs (F := Bits) = Cert.KernelIdeal.defs (F := Bits) :=
  congrArg (Pipeline.defs Cert.KernelIdeal.pcfgs) bodies_eq

/-- The kernel runs, on bits as on extended reals, keeps its arguments and ends quiescent. -/
theorem frame_kernel : Cert.quiescent_Kernel := fun m ρ _ => by
  rw [defs_eq]
  exact (θ_run Cert.KernelIdeal.defs _ _).mono (fun _ h => ⟨fun c => ⟨(h.1 c).1, (h.1 c).2.1⟩, h.2⟩) (RmsNorm.run_main (F := Bits) m ρ)

/-- The same over the extended reals. -/
theorem frame_ideal : Cert.quiescent_KernelIdeal := fun m ρ _ =>
  (θ_run Cert.KernelIdeal.defs _ _).mono (fun _ h => ⟨fun c => ⟨(h.1 c).1, (h.1 c).2.1⟩, h.2⟩) (RmsNorm.run_main (F := Ideal) m ρ)

/-- The reference runs, keeps its arguments and ends quiescent. -/
theorem frame_reference : Cert.quiescent_ReferenceIdeal := fun m ρ _ =>
  (θ_run Cert.ReferenceIdeal.defs _ _).mono (fun _ h => ⟨fun c => (h.1 c).2, h.2⟩) (RmsNorm.Whole.run_result m ρ)

/-- Each device's result is its block of the reference's result. -/
theorem algebraic : Cert.algebraic_KernelIdeal_ReferenceIdeal := fun m ρ m' ρ' _ blocks =>
  ⟨RmsNorm.Whole.result _ _,
    (θ_run Cert.KernelIdeal.defs _ _).mono
      (fun _ h c => ⟨((h.1 c).2.2).trans (RmsNorm.outAt_block blocks c), (h.1 c).1, (h.1 c).2.1⟩) (RmsNorm.run_main (F := Ideal) m ρ),
    (θ_run Cert.ReferenceIdeal.defs _ _).mono (fun _ h => h.1 0) (RmsNorm.Whole.run_result m' ρ')⟩

/-- The five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
